-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S128x512 : Shape := ⟨2, ![128, 512]⟩
abbrev S64x512 : Shape := ⟨2, ![64, 512]⟩
abbrev S3 : Shape := ⟨1, ![3]⟩
abbrev S_ : Shape := ⟨0, ![]⟩
abbrev S512x32 : Shape := ⟨2, ![512, 32]⟩
abbrev S512 : Shape := ⟨1, ![512]⟩
abbrev S1x256x512 : Shape := ⟨3, ![1, 256, 512]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x32, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S512x512, .f32⟩
  | .local _ .vmem, ⟨6, _⟩ => ⟨S512x512, .f32⟩
  | .local _ .vmem, ⟨7, _⟩ => ⟨S256x512, .f32⟩
  | .local _ .vmem, ⟨8, _⟩ => ⟨S128x512, .f32⟩
  | .local _ .vmem, ⟨9, _⟩ => ⟨S64x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.addi v2 c1_i32_5
  let c2_i32_7 : BitVec 32 := 2#32
  let c2_i32_6 : BitVec 32 := 2#32
  let v15 : BitVec 32 := Scalar.remsi v2 c2_i32_6
  let v16 : BitVec 32 := Scalar.muli c2_i32_7 v15
  let v17 : BitVec 32 := Scalar.subi v14 v16
  let c1_i32_10 : BitVec 32 := 1#32
  let v22 : BitVec 32 := Scalar.muli v17 c1_i32_10
  let v23 : BitVec 32 := Scalar.addi c0_i32 v22
  v23.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v18 : BitVec 32 := Scalar.addi v2 c3_i32
  let c2_i32_8 : BitVec 32 := 2#32
  let c4_i32 : BitVec 32 := 4#32
  let v3 : BitVec 32 := Scalar.remsi v2 c4_i32
  let v19 : BitVec 32 := Scalar.muli c2_i32_8 v3
  let v20 : BitVec 32 := Scalar.subi v18 v19
  let c1_i32_12 : BitVec 32 := 1#32
  let v24 : BitVec 32 := Scalar.muli v20 c1_i32_12
  let v25 : BitVec 32 := Scalar.addi c0_i32_13 v24
  v25.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v12 : BitVec 32 := Scalar.addi v2 c4_i32_3
  let c8_i32_4 : BitVec 32 := 8#32
  let v13 : BitVec 32 := Scalar.remsi v12 c8_i32_4
  let c1_i32_15 : BitVec 32 := 1#32
  let v26 : BitVec 32 := Scalar.muli v13 c1_i32_15
  let v27 : BitVec 32 := Scalar.addi c0_i32_16 v26
  v27.toNat
def k0_off1 (d0 : Dev nD) : Fin 2 → Nat :=
  let c0_i32_59 : BitVec 32 := 0#32
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 1 := Scalar.cmpi .sge v2 c4_i32_0
  let v5 : BitVec 32 := Scalar.extui v4
  let v107 : BitVec 32 := Scalar.subi c1_i32_58 v5
  let c256_i32 : BitVec 32 := 256#32
  let v108 : BitVec 32 := Scalar.muli v107 c256_i32
  let v109 : BitVec 32 := Scalar.addi c0_i32_59 v108
  let c0_i32_66 : BitVec 32 := 0#32
  ![v109.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v12 : BitVec 32 := Scalar.addi v2 c4_i32_3
  let c8_i32_4 : BitVec 32 := 8#32
  let v13 : BitVec 32 := Scalar.remsi v12 c8_i32_4
  let c1_i32_64 : BitVec 32 := 1#32
  let v112 : BitVec 32 := Scalar.muli v13 c1_i32_64
  let v113 : BitVec 32 := Scalar.addi c0_i32_65 v112
  v113.toNat
def k0_off2 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 1 := Scalar.cmpi .sge v2 c4_i32_0
  let v5 : BitVec 32 := Scalar.extui v4
  let c256_i32_60 : BitVec 32 := 256#32
  let v110 : BitVec 32 := Scalar.muli v5 c256_i32_60
  let v111 : BitVec 32 := Scalar.addi c0_i32_61 v110
  let v127 : Index := Scalar.indexCast v111
  let c0_76 : Index := 0#32
  ![v127.toNat, 0]
def k0_off3 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 1 := Scalar.cmpi .sge v2 c4_i32_0
  let v5 : BitVec 32 := Scalar.extui v4
  let c256_i32_60 : BitVec 32 := 256#32
  let v110 : BitVec 32 := Scalar.muli v5 c256_i32_60
  let v111 : BitVec 32 := Scalar.addi c0_i32_61 v110
  let c1_i32_80 : BitVec 32 := 1#32
  let c4_i32 : BitVec 32 := 4#32
  let v3 : BitVec 32 := Scalar.remsi v2 c4_i32
  let c1_i32_1 : BitVec 32 := 1#32
  let v6 : BitVec 1 := Scalar.cmpi .eq v3 c1_i32_1
  let c2_i32 : BitVec 32 := 2#32
  let v7 : BitVec 1 := Scalar.cmpi .eq v3 c2_i32
  let v8 : BitVec 1 := Scalar.ori v6 v7
  let v9 : BitVec 32 := Scalar.extui v8
  let v135 : BitVec 32 := Scalar.subi c1_i32_80 v9
  let c128_i32 : BitVec 32 := 128#32
  let v136 : BitVec 32 := Scalar.muli v135 c128_i32
  let v137 : BitVec 32 := Scalar.addi v111 v136
  let c0_i32_86 : BitVec 32 := 0#32
  ![v137.toNat, 0]
def k0_dev5 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.addi v2 c1_i32_5
  let c2_i32_7 : BitVec 32 := 2#32
  let c2_i32_6 : BitVec 32 := 2#32
  let v15 : BitVec 32 := Scalar.remsi v2 c2_i32_6
  let v16 : BitVec 32 := Scalar.muli c2_i32_7 v15
  let v17 : BitVec 32 := Scalar.subi v14 v16
  let c1_i32_84 : BitVec 32 := 1#32
  let v140 : BitVec 32 := Scalar.muli v17 c1_i32_84
  let v141 : BitVec 32 := Scalar.addi c0_i32_85 v140
  v141.toNat
def k0_off4 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 1 := Scalar.cmpi .sge v2 c4_i32_0
  let v5 : BitVec 32 := Scalar.extui v4
  let c256_i32_60 : BitVec 32 := 256#32
  let v110 : BitVec 32 := Scalar.muli v5 c256_i32_60
  let v111 : BitVec 32 := Scalar.addi c0_i32_61 v110
  let c4_i32 : BitVec 32 := 4#32
  let v3 : BitVec 32 := Scalar.remsi v2 c4_i32
  let c1_i32_1 : BitVec 32 := 1#32
  let v6 : BitVec 1 := Scalar.cmpi .eq v3 c1_i32_1
  let c2_i32 : BitVec 32 := 2#32
  let v7 : BitVec 1 := Scalar.cmpi .eq v3 c2_i32
  let v8 : BitVec 1 := Scalar.ori v6 v7
  let v9 : BitVec 32 := Scalar.extui v8
  let c128_i32_81 : BitVec 32 := 128#32
  let v138 : BitVec 32 := Scalar.muli v9 c128_i32_81
  let v139 : BitVec 32 := Scalar.addi v111 v138
  let v155 : Index := Scalar.indexCast v139
  let c0_96 : Index := 0#32
  ![v155.toNat, 0]
def k0_off5 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 1 := Scalar.cmpi .sge v2 c4_i32_0
  let v5 : BitVec 32 := Scalar.extui v4
  let c256_i32_60 : BitVec 32 := 256#32
  let v110 : BitVec 32 := Scalar.muli v5 c256_i32_60
  let v111 : BitVec 32 := Scalar.addi c0_i32_61 v110
  let c4_i32 : BitVec 32 := 4#32
  let v3 : BitVec 32 := Scalar.remsi v2 c4_i32
  let c1_i32_1 : BitVec 32 := 1#32
  let v6 : BitVec 1 := Scalar.cmpi .eq v3 c1_i32_1
  let c2_i32 : BitVec 32 := 2#32
  let v7 : BitVec 1 := Scalar.cmpi .eq v3 c2_i32
  let v8 : BitVec 1 := Scalar.ori v6 v7
  let v9 : BitVec 32 := Scalar.extui v8
  let c128_i32_81 : BitVec 32 := 128#32
  let v138 : BitVec 32 := Scalar.muli v9 c128_i32_81
  let v139 : BitVec 32 := Scalar.addi v111 v138
  let c1_i32_100 : BitVec 32 := 1#32
  let c2_i32_2 : BitVec 32 := 2#32
  let v10 : BitVec 1 := Scalar.cmpi .sge v3 c2_i32_2
  let v11 : BitVec 32 := Scalar.extui v10
  let v163 : BitVec 32 := Scalar.subi c1_i32_100 v11
  let c64_i32 : BitVec 32 := 64#32
  let v164 : BitVec 32 := Scalar.muli v163 c64_i32
  let v165 : BitVec 32 := Scalar.addi v139 v164
  let c0_i32_106 : BitVec 32 := 0#32
  ![v165.toNat, 0]
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v18 : BitVec 32 := Scalar.addi v2 c3_i32
  let c2_i32_8 : BitVec 32 := 2#32
  let c4_i32 : BitVec 32 := 4#32
  let v3 : BitVec 32 := Scalar.remsi v2 c4_i32
  let v19 : BitVec 32 := Scalar.muli c2_i32_8 v3
  let v20 : BitVec 32 := Scalar.subi v18 v19
  let c1_i32_104 : BitVec 32 := 1#32
  let v168 : BitVec 32 := Scalar.muli v20 c1_i32_104
  let v169 : BitVec 32 := Scalar.addi c0_i32_105 v168
  v169.toNat
def k0_off6 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 1 := Scalar.cmpi .sge v2 c4_i32_0
  let v5 : BitVec 32 := Scalar.extui v4
  let c256_i32_60 : BitVec 32 := 256#32
  let v110 : BitVec 32 := Scalar.muli v5 c256_i32_60
  let v111 : BitVec 32 := Scalar.addi c0_i32_61 v110
  let c4_i32 : BitVec 32 := 4#32
  let v3 : BitVec 32 := Scalar.remsi v2 c4_i32
  let c1_i32_1 : BitVec 32 := 1#32
  let v6 : BitVec 1 := Scalar.cmpi .eq v3 c1_i32_1
  let c2_i32 : BitVec 32 := 2#32
  let v7 : BitVec 1 := Scalar.cmpi .eq v3 c2_i32
  let v8 : BitVec 1 := Scalar.ori v6 v7
  let v9 : BitVec 32 := Scalar.extui v8
  let c128_i32_81 : BitVec 32 := 128#32
  let v138 : BitVec 32 := Scalar.muli v9 c128_i32_81
  let v139 : BitVec 32 := Scalar.addi v111 v138
  let c2_i32_2 : BitVec 32 := 2#32
  let v10 : BitVec 1 := Scalar.cmpi .sge v3 c2_i32_2
  let v11 : BitVec 32 := Scalar.extui v10
  let c64_i32_101 : BitVec 32 := 64#32
  let v166 : BitVec 32 := Scalar.muli v11 c64_i32_101
  let v167 : BitVec 32 := Scalar.addi v139 v166
  let v183 : Index := Scalar.indexCast v167
  let c0_116 : Index := 0#32
  ![v183.toNat, 0]
def k0_off7 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 1 := Scalar.cmpi .sge v2 c4_i32_0
  let v5 : BitVec 32 := Scalar.extui v4
  let c256_i32_60 : BitVec 32 := 256#32
  let v110 : BitVec 32 := Scalar.muli v5 c256_i32_60
  let v111 : BitVec 32 := Scalar.addi c0_i32_61 v110
  let c4_i32 : BitVec 32 := 4#32
  let v3 : BitVec 32 := Scalar.remsi v2 c4_i32
  let c1_i32_1 : BitVec 32 := 1#32
  let v6 : BitVec 1 := Scalar.cmpi .eq v3 c1_i32_1
  let c2_i32 : BitVec 32 := 2#32
  let v7 : BitVec 1 := Scalar.cmpi .eq v3 c2_i32
  let v8 : BitVec 1 := Scalar.ori v6 v7
  let v9 : BitVec 32 := Scalar.extui v8
  let c128_i32_81 : BitVec 32 := 128#32
  let v138 : BitVec 32 := Scalar.muli v9 c128_i32_81
  let v139 : BitVec 32 := Scalar.addi v111 v138
  let c2_i32_2 : BitVec 32 := 2#32
  let v10 : BitVec 1 := Scalar.cmpi .sge v3 c2_i32_2
  let v11 : BitVec 32 := Scalar.extui v10
  let c64_i32_101 : BitVec 32 := 64#32
  let v166 : BitVec 32 := Scalar.muli v11 c64_i32_101
  let v167 : BitVec 32 := Scalar.addi v139 v166
  let c0_i32_126 : BitVec 32 := 0#32
  ![v167.toNat, 0]
def k0_dev7 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v18 : BitVec 32 := Scalar.addi v2 c3_i32
  let c2_i32_8 : BitVec 32 := 2#32
  let c4_i32 : BitVec 32 := 4#32
  let v3 : BitVec 32 := Scalar.remsi v2 c4_i32
  let v19 : BitVec 32 := Scalar.muli c2_i32_8 v3
  let v20 : BitVec 32 := Scalar.subi v18 v19
  let c1_i32_124 : BitVec 32 := 1#32
  let v195 : BitVec 32 := Scalar.muli v20 c1_i32_124
  let v196 : BitVec 32 := Scalar.addi c0_i32_125 v195
  v196.toNat
def k0_off8 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 1 := Scalar.cmpi .sge v2 c4_i32_0
  let v5 : BitVec 32 := Scalar.extui v4
  let c256_i32_60 : BitVec 32 := 256#32
  let v110 : BitVec 32 := Scalar.muli v5 c256_i32_60
  let v111 : BitVec 32 := Scalar.addi c0_i32_61 v110
  let c4_i32 : BitVec 32 := 4#32
  let v3 : BitVec 32 := Scalar.remsi v2 c4_i32
  let c1_i32_1 : BitVec 32 := 1#32
  let v6 : BitVec 1 := Scalar.cmpi .eq v3 c1_i32_1
  let c2_i32 : BitVec 32 := 2#32
  let v7 : BitVec 1 := Scalar.cmpi .eq v3 c2_i32
  let v8 : BitVec 1 := Scalar.ori v6 v7
  let v9 : BitVec 32 := Scalar.extui v8
  let c128_i32_81 : BitVec 32 := 128#32
  let v138 : BitVec 32 := Scalar.muli v9 c128_i32_81
  let v139 : BitVec 32 := Scalar.addi v111 v138
  let c2_i32_2 : BitVec 32 := 2#32
  let v10 : BitVec 1 := Scalar.cmpi .sge v3 c2_i32_2
  let v11 : BitVec 32 := Scalar.extui v10
  let c64_i32_101 : BitVec 32 := 64#32
  let v166 : BitVec 32 := Scalar.muli v11 c64_i32_101
  let v167 : BitVec 32 := Scalar.addi v139 v166
  let c64_i32_139 : BitVec 32 := 64#32
  let v213 : BitVec 32 := Scalar.muli v11 c64_i32_139
  let v214 : BitVec 32 := Scalar.subi v167 v213
  let c0_i32_144 : BitVec 32 := 0#32
  ![v214.toNat, 0]
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v14 : BitVec 32 := Scalar.addi v2 c1_i32_5
  let c2_i32_7 : BitVec 32 := 2#32
  let c2_i32_6 : BitVec 32 := 2#32
  let v15 : BitVec 32 := Scalar.remsi v2 c2_i32_6
  let v16 : BitVec 32 := Scalar.muli c2_i32_7 v15
  let v17 : BitVec 32 := Scalar.subi v14 v16
  let c1_i32_142 : BitVec 32 := 1#32
  let v215 : BitVec 32 := Scalar.muli v17 c1_i32_142
  let v216 : BitVec 32 := Scalar.addi c0_i32_143 v215
  v216.toNat
def k0_off9 (d0 : Dev nD) : Fin 2 → Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 1 := Scalar.cmpi .sge v2 c4_i32_0
  let v5 : BitVec 32 := Scalar.extui v4
  let c256_i32_60 : BitVec 32 := 256#32
  let v110 : BitVec 32 := Scalar.muli v5 c256_i32_60
  let v111 : BitVec 32 := Scalar.addi c0_i32_61 v110
  let c4_i32 : BitVec 32 := 4#32
  let v3 : BitVec 32 := Scalar.remsi v2 c4_i32
  let c1_i32_1 : BitVec 32 := 1#32
  let v6 : BitVec 1 := Scalar.cmpi .eq v3 c1_i32_1
  let c2_i32 : BitVec 32 := 2#32
  let v7 : BitVec 1 := Scalar.cmpi .eq v3 c2_i32
  let v8 : BitVec 1 := Scalar.ori v6 v7
  let v9 : BitVec 32 := Scalar.extui v8
  let c128_i32_81 : BitVec 32 := 128#32
  let v138 : BitVec 32 := Scalar.muli v9 c128_i32_81
  let v139 : BitVec 32 := Scalar.addi v111 v138
  let c2_i32_2 : BitVec 32 := 2#32
  let v10 : BitVec 1 := Scalar.cmpi .sge v3 c2_i32_2
  let v11 : BitVec 32 := Scalar.extui v10
  let c64_i32_101 : BitVec 32 := 64#32
  let v166 : BitVec 32 := Scalar.muli v11 c64_i32_101
  let v167 : BitVec 32 := Scalar.addi v139 v166
  let c64_i32_139 : BitVec 32 := 64#32
  let v213 : BitVec 32 := Scalar.muli v11 c64_i32_139
  let v214 : BitVec 32 := Scalar.subi v167 v213
  let c128_i32_157 : BitVec 32 := 128#32
  let v233 : BitVec 32 := Scalar.muli v9 c128_i32_157
  let v234 : BitVec 32 := Scalar.subi v214 v233
  let c0_i32_162 : BitVec 32 := 0#32
  ![v234.toNat, 0]
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v12 : BitVec 32 := Scalar.addi v2 c4_i32_3
  let c8_i32_4 : BitVec 32 := 8#32
  let v13 : BitVec 32 := Scalar.remsi v12 c8_i32_4
  let c1_i32_160 : BitVec 32 := 1#32
  let v235 : BitVec 32 := Scalar.muli v13 c1_i32_160
  let v236 : BitVec 32 := Scalar.addi c0_i32_161 v235
  v236.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S512x32 : Shape := ⟨2, ![512, 32]⟩
abbrev S_ : Shape := ⟨0, ![]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S512x256x512 : Shape := ⟨3, ![512, 256, 512]⟩

abbrev nBuf : Space → Nat
  | .hbm => 58
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S32x256x512, .f32⟩
  | .hbm, ⟨4, _⟩ => ⟨S256x512, .f32⟩
  | .hbm, ⟨5, _⟩ => ⟨S512x32, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x32, .f32⟩
  | .hbm, ⟨10, _⟩ => ⟨S512x32, .f32⟩
  | .hbm, ⟨11, _⟩ => ⟨S512x32, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x32, .f32⟩
  | .hbm, ⟨16, _⟩ => ⟨S512x32, .f32⟩
  | .hbm, ⟨17, _⟩ => ⟨S512x512, .f32⟩
  | .hbm, ⟨18, _⟩ => ⟨S512, .i32⟩
  | .hbm, ⟨19, _⟩ => ⟨S512, .i32⟩
  | .hbm, ⟨20, _⟩ => ⟨S512x1, .i32⟩
  | .hbm, ⟨21, _⟩ => ⟨S512x1, .i32⟩
  | .hbm, ⟨22, _⟩ => ⟨S512x2, .i32⟩
  | .hbm, ⟨23, _⟩ => ⟨S2, .i32⟩
  | .hbm, ⟨24, _⟩ => ⟨S_, .i32⟩
  | .hbm, ⟨25, _⟩ => ⟨S512x2, .i32⟩
  | .hbm, ⟨26, _⟩ => ⟨S512x2, .i1⟩
  | .hbm, ⟨27, _⟩ => ⟨S1x2, .i32⟩
  | .hbm, ⟨28, _⟩ => ⟨S512x2, .i32⟩
  | .hbm, ⟨29, _⟩ => ⟨S512x2, .i1⟩
  | .hbm, ⟨30, _⟩ => ⟨S512x2, .i1⟩
  | .hbm, ⟨31, _⟩ => ⟨S_, .i1⟩
  | .hbm, ⟨32, _⟩ => ⟨S512, .i1⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512x1, .i32⟩
  | .hbm, ⟨38, _⟩ => ⟨S1, .i32⟩
  | .hbm, ⟨39, _⟩ => ⟨S_, .i32⟩
  | .hbm, ⟨40, _⟩ => ⟨S512x1, .i32⟩
  | .hbm, ⟨41, _⟩ => ⟨S512x1, .i1⟩
  | .hbm, ⟨42, _⟩ => ⟨S1x1, .i32⟩
  | .hbm, ⟨43, _⟩ => ⟨S512x1, .i32⟩
  | .hbm, ⟨44, _⟩ => ⟨S512x1, .i1⟩
  | .hbm, ⟨45, _⟩ => ⟨S512x1, .i1⟩
  | .hbm, ⟨46, _⟩ => ⟨S_, .i1⟩
  | .hbm, ⟨47, _⟩ => ⟨S512, .i1⟩
  | .hbm, ⟨48, _⟩ => ⟨S512x256x512, .f32⟩
  | .hbm, ⟨49, _⟩ => ⟨S512x256x512, .i1⟩
  | .hbm, ⟨50, _⟩ => ⟨S_, .f32⟩
  | .hbm, ⟨51, _⟩ => ⟨S512x256x512, .f32⟩
  | .hbm, ⟨52, _⟩ => ⟨S512x256x512, .f32⟩
  | .hbm, ⟨53, _⟩ => ⟨S512x1, .f32⟩
  | .hbm, ⟨54, _⟩ => ⟨S512x256, .f32⟩
  | .hbm, ⟨55, _⟩ => ⟨S512x256, .f32⟩
  | .hbm, ⟨56, _⟩ => ⟨S512x512, .f32⟩
  | .hbm, ⟨57, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.KernelIdeal.Mesh.lean ====
/-
The mesh of the kernel: the eight devices as the corners of a cube, the partner of each of the six exchange
steps, the rows each step moves, and how those rows tile the 512 x 512 arrays.

Steps 0, 1, 2 halve the rows a device is responsible for (256, 128, 64 rows go to the partner); steps 3, 4, 5
double them back (64, 128, 256 rows). Steps `s` and `5 - s` have the same partner.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Partners -/

/-- The device across the cube in direction z, -/
def pz (c : Dev nD) : Dev nD := ⟨(c.val + 4) % 8, Nat.mod_lt _ (by decide)⟩
/-- in direction x, -/
def px (c : Dev nD) : Dev nD := ⟨(c.val + 1 - 2 * (c.val % 2)) % 8, Nat.mod_lt _ (by decide)⟩
/-- and in direction y. -/
def py (c : Dev nD) : Dev nD := ⟨(c.val + 3 - 2 * (c.val % 4)) % 8, Nat.mod_lt _ (by decide)⟩

/-- The partner of step `s`. -/
def peer : Fin 6 → Dev nD → Dev nD := fun | 0 => pz | 1 => px | 2 => py | 3 => py | 4 => px | 5 => pz

/-- Partnership is mutual. -/
theorem peer_peer (s : Fin 6) (c : Dev nD) : peer s (peer s c) = c := by revert s c; decide
theorem pz_pz (c : Dev nD) : pz (pz c) = c := peer_peer 0 c
theorem px_px (c : Dev nD) : px (px c) = c := peer_peer 1 c
theorem py_py (c : Dev nD) : py (py c) = c := peer_peer 2 c

theorem dev1_eq (c : Dev nD) : (⟨k0_dev1 c, k0_dev1_lt c⟩ : Dev nD) = px c := Fin.ext (by revert c; decide +kernel)
theorem dev2_eq (c : Dev nD) : (⟨k0_dev2 c, k0_dev2_lt c⟩ : Dev nD) = py c := Fin.ext (by revert c; decide +kernel)
theorem dev3_eq (c : Dev nD) : (⟨k0_dev3 c, k0_dev3_lt c⟩ : Dev nD) = pz c := Fin.ext (by revert c; decide +kernel)
theorem dev4_eq (c : Dev nD) : (⟨k0_dev4 c, k0_dev4_lt c⟩ : Dev nD) = peer 0 c := Fin.ext (by revert c; decide +kernel)
theorem dev5_eq (c : Dev nD) : (⟨k0_dev5 c, k0_dev5_lt c⟩ : Dev nD) = peer 1 c := Fin.ext (by revert c; decide +kernel)
theorem dev6_eq (c : Dev nD) : (⟨k0_dev6 c, k0_dev6_lt c⟩ : Dev nD) = peer 2 c := Fin.ext (by revert c; decide +kernel)
theorem dev7_eq (c : Dev nD) : (⟨k0_dev7 c, k0_dev7_lt c⟩ : Dev nD) = peer 3 c := Fin.ext (by revert c; decide +kernel)
theorem dev8_eq (c : Dev nD) : (⟨k0_dev8 c, k0_dev8_lt c⟩ : Dev nD) = peer 4 c := Fin.ext (by revert c; decide +kernel)
theorem dev9_eq (c : Dev nD) : (⟨k0_dev9 c, k0_dev9_lt c⟩ : Dev nD) = peer 5 c := Fin.ext (by revert c; decide +kernel)

/-! ## Rows -/

/-- The first row device `c` sends in step `s`. -/
def lo : Fin 6 → Dev nD → ℕ := fun s c => match s with
  | 0 => k0_off1 c 0 | 1 => k0_off3 c 0 | 2 => k0_off5 c 0 | 3 => k0_off7 c 0 | 4 => k0_off8 c 0 | 5 => k0_off9 c 0

/-- How many rows step `s` moves. -/
def sz : Fin 6 → ℕ := fun | 0 => 256 | 1 => 128 | 2 => 64 | 3 => 64 | 4 => 128 | 5 => 256

theorem off_eq (o : Dev nD → Fin 2 → ℕ) (h : ∀ c, o c 1 = 0) (c : Dev nD) : o c = ![o c 0, 0] :=
  funext fun a => by fin_cases a; exacts [rfl, h c]

theorem off1_eq (c : Dev nD) : k0_off1 c = ![lo 0 c, 0] := off_eq k0_off1 (by decide +kernel) c
theorem off3_eq (c : Dev nD) : k0_off3 c = ![lo 1 c, 0] := off_eq k0_off3 (by decide +kernel) c
theorem off5_eq (c : Dev nD) : k0_off5 c = ![lo 2 c, 0] := off_eq k0_off5 (by decide +kernel) c
theorem off7_eq (c : Dev nD) : k0_off7 c = ![lo 3 c, 0] := off_eq k0_off7 (by decide +kernel) c
theorem off8_eq (c : Dev nD) : k0_off8 c = ![lo 4 c, 0] := off_eq k0_off8 (by decide +kernel) c
theorem off9_eq (c : Dev nD) : k0_off9 c = ![lo 5 c, 0] := off_eq k0_off9 (by decide +kernel) c

/-- What a device keeps in a halving step is what its partner sends it. -/
theorem off1_peer (c : Dev nD) : k0_off1 (peer 0 c) = k0_off2 c := by revert c; decide +kernel
theorem off3_peer (c : Dev nD) : k0_off3 (peer 1 c) = k0_off4 c := by revert c; decide +kernel
theorem off5_peer (c : Dev nD) : k0_off5 (peer 2 c) = k0_off6 c := by revert c; decide +kernel
theorem off2_eq (c : Dev nD) : k0_off2 c = ![lo 0 (peer 0 c), 0] := by rw [← off1_peer, off1_eq]
theorem off4_eq (c : Dev nD) : k0_off4 c = ![lo 1 (peer 1 c), 0] := by rw [← off3_peer, off3_eq]
theorem off6_eq (c : Dev nD) : k0_off6 c = ![lo 2 (peer 2 c), 0] := by rw [← off5_peer, off5_eq]

/-- The indices of a 512 x 512 array in the `n` rows from row `a`. -/
def rows (a n : ℕ) : Finset S512x512.Idx := Finset.univ.filter fun i => a ≤ (i 0 : ℕ) ∧ (i 0 : ℕ) < a + n

theorem mem_rows {a n : ℕ} {i : S512x512.Idx} : i ∈ rows a n ↔ a ≤ (i 0 : ℕ) ∧ (i 0 : ℕ) < a + n := by simp [rows]

/-- `a` and `b` are the first rows of the two halves of the `2 n` rows from `t`, in one order or the other. -/
def Halves (t n a b : ℕ) : Prop := (a = t ∧ b = t + n) ∨ (a = t + n ∧ b = t)
instance (t n a b : ℕ) : Decidable (Halves t n a b) := inferInstanceAs (Decidable (_ ∨ _))

theorem Halves.union {t n a b : ℕ} (h : Halves t n a b) : rows t (2 * n) = rows a n ∪ rows b n := by
  ext i; simp only [Finset.mem_union, mem_rows]; rcases h with ⟨rfl, rfl⟩ | ⟨rfl, rfl⟩ <;> omega
theorem Halves.disjoint {t n a b : ℕ} (h : Halves t n a b) : Disjoint (rows a n) (rows b n) := by
  rw [Finset.disjoint_left]; intro i; simp only [mem_rows]; rcases h with ⟨rfl, rfl⟩ | ⟨rfl, rfl⟩ <;> omega

theorem rows_all : rows 0 (2 * 256) = Finset.univ := by
  ext i; simp only [mem_rows, Finset.mem_univ, iff_true]; have := (i 0).isLt; change (i 0 : ℕ) < 512 at this; omega

/-- Each halving step halves what the step before it kept, -/
theorem halves0 (c : Dev nD) : Halves 0 256 (lo 0 c) (lo 0 (peer 0 c)) := by revert c; decide +kernel
theorem halves1 (c : Dev nD) : Halves (lo 0 (peer 0 c)) 128 (lo 1 c) (lo 1 (peer 1 c)) := by revert c; decide +kernel
theorem halves2 (c : Dev nD) : Halves (lo 1 (peer 1 c)) 64 (lo 2 c) (lo 2 (peer 2 c)) := by revert c; decide +kernel
/-- the last one leaves what the first doubling step sends, -/
theorem lo_three (c : Dev nD) : lo 2 (peer 2 c) = lo 3 c := by revert c; decide +kernel
theorem off6_lo (c : Dev nD) : k0_off6 c = ![lo 3 c, 0] := by rw [off6_eq, lo_three]
/-- and each doubling step sends what the one before it sent and received. -/
theorem halves4 (c : Dev nD) : Halves (lo 4 c) 64 (lo 3 c) (lo 3 (peer 3 c)) := by revert c; decide +kernel
theorem halves5 (c : Dev nD) : Halves (lo 5 c) 128 (lo 4 c) (lo 4 (peer 4 c)) := by revert c; decide +kernel
theorem halves6 (c : Dev nD) : Halves 0 256 (lo 5 c) (lo 5 (peer 5 c)) := by revert c; decide +kernel

/-- The device whose own 64 rows hold row `r`. -/
def owner (r : ℕ) : Dev nD := match r / 64 with
  | 0 => 0 | 1 => 3 | 2 => 1 | 3 => 2 | 4 => 4 | 5 => 7 | 6 => 5 | _ => 6

theorem owner_lo (c : Dev nD) : lo 3 c = 64 * (lo 3 c / 64) ∧ owner (lo 3 c) = c := by revert c; decide +kernel

theorem owner_of_mem {c : Dev nD} {i : S512x512.Idx} (h : i ∈ rows (lo 3 c) 64) : owner (i 0 : ℕ) = c := by
  rw [mem_rows] at h
  obtain ⟨h64, ho⟩ := owner_lo c
  have hr : (i 0 : ℕ) / 64 = lo 3 c / 64 := by omega
  rw [← ho]; unfold owner; rw [hr]

/-! ## The slices' elements -/

theorem mem_unit {off : Fin 2 → ℕ} {a n : ℕ} (h : off = ![a, 0]) {inb : ∀ x, off x + (![n, 512] : Fin 2 → ℕ) x ≤ S512x512.size x} :
    (Rect.unit (s := S512x512) off ![n, 512] inb).set = rows a n := by
  subst h
  ext i
  rw [Rect.mem_set_unit, mem_rows]
  constructor
  · intro h; exact h 0
  · intro h x
    fin_cases x
    · exact h
    · have := (i 1).isLt; exact ⟨Nat.zero_le _, by change (i 1 : ℕ) < 512 at this; show (i 1 : ℕ) < 0 + 512; omega⟩

end Cert.KernelIdeal.Cube

end
-- ==== Proof.KernelIdeal.Contents.lean ====
/-
What the buffers of the kernel hold, for any float values: the partial result each device computes from its
staged inputs, the running sums after each halving step, and the array every device ends with.
-/
module

public import proofs.«01_k».proof.Proof.KernelIdeal.Mesh

@[expose] public section

noncomputable section

namespace Cert.KernelIdeal.Cube

open Cert.KernelIdeal Cert.KernelIdeal.Gen

open Idealize.ShloMosaic
open Idealize.ShloMosaic.TcCoe

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The staged inputs of device `c`: its block of each argument array, the whole of it. -/
def in0 (c : Dev nD) : (cc0_stg0_0 : Ref sig .tc).ty.Contents (Elt F) :=
  (win0_0.blk t0_0).view.read (Elt F) ((s₀ m ρ).mem ((c : Thread nD τ).loc main_arg0))
def in1 (c : Dev nD) : (cc0_stg1_0 : Ref sig .tc).ty.Contents (Elt F) :=
  (win0_1.blk t0_0).view.read (Elt F) ((s₀ m ρ).mem ((c : Thread nD τ).loc main_arg1))
def in2 (c : Dev nD) : (cc0_stg2_0 : Ref sig .tc).ty.Contents (Elt F) :=
  (win0_2.blk t0_0).view.read (Elt F) ((s₀ m ρ).mem ((c : Thread nD τ).loc main_arg2))
def in3 (c : Dev nD) : (cc0_stg3_0 : Ref sig .tc).ty.Contents (Elt F) :=
  (win0_3.blk t0_0).view.read (Elt F) ((s₀ m ρ).mem ((c : Thread nD τ).loc main_arg3))
def in4 (c : Dev nD) : (cc0_stg4_0 : Ref sig .tc).ty.Contents (Elt F) :=
  (win0_4.blk t0_0).view.read (Elt F) ((s₀ m ρ).mem ((c : Thread nD τ).loc main_arg4))

/-- The word the kernel computes its expert numbers from: the device's own number. -/
abbrev word (c : Dev nD) : BitVec 32 := Scalar.remsi (Scalar.divsi (Dev.word c) 1#32) 8#32

/-- The weights of the device's expert in plane `o` of its block. -/
abbrev plane (c : Dev nD) (o : Fin 3 → ℕ) (h : ∀ a, o a + S1x256x512.size a ≤ S4x256x512.size a) : Vec F S1x256x512 .f32 :=
  (Memref.whole cc0_stg3_0 : Memref sig .tc .vmem S4x256x512 .f32).view.readAt (Elt F) (Rect.unit (s := S4x256x512) o S1x256x512.size h).toLoadRect (in3 m ρ c)

/-- The partial result of device `c`: an eighth of the shared product and the routed products of its four experts. -/
def T0 (c : Dev nD) : FVec F S512x512 .f32 :=
  k0_pay6 (k0_pay5 (word c) (k0_pay1 (in0 m ρ c)) (k0_pay2 (in2 m ρ c)) (k0_pay3 (in0 m ρ c) (in2 m ρ c) (in1 m ρ c))
    (k0_pay4 (word c) (in0 m ρ c) (in2 m ρ c) (in1 m ρ c) (in4 m ρ c) (plane m ρ c ![0, 0, 0] inb_S4x256x512_S1x256x512_0_0_0))
    (plane m ρ c ![1, 0, 0] inb_S4x256x512_S1x256x512_1_0_0) (plane m ρ c ![2, 0, 0] inb_S4x256x512_S1x256x512_2_0_0)
    (plane m ρ c ![3, 0, 0] inb_S4x256x512_S1x256x512_3_0_0))
/-- The sum over a device and its partner in direction z, -/
def T1 (c : Dev nD) : FVec F S512x512 .f32 := addf (T0 m ρ c) (T0 m ρ (peer 0 c))
/-- over the four devices its partners in directions z and x reach, -/
def T2 (c : Dev nD) : FVec F S512x512 .f32 := addf (T1 m ρ c) (T1 m ρ (peer 1 c))
/-- over all eight devices. -/
def T3 (c : Dev nD) : FVec F S512x512 .f32 := addf (T2 m ρ c) (T2 m ρ (peer 2 c))
/-- The final array, the same on every device: each row as its owner summed it. -/
def Out : FVec F S512x512 .f32 := fun i => T3 m ρ (owner (i 0 : ℕ)) i

/-- On a device's own rows the final array is that device's sum. -/
theorem Out_own (c : Dev nD) {i : S512x512.Idx} (h : i ∈ rows (lo 3 c) 64) : T3 m ρ c i = Out m ρ i := by
  unfold Out; rw [owner_of_mem h]

/-! ## Views -/

abbrev accM : Memref sig .tc .vmem S512x512 .f32 := Memref.whole cc0_scratch0
abbrev outM : Memref sig .tc .vmem S512x512 .f32 := Memref.whole cc0_stg5_0
abbrev st0M : Memref sig .tc .vmem S256x512 .f32 := Memref.whole cc0_scratch1
abbrev st1M : Memref sig .tc .vmem S128x512 .f32 := Memref.whole cc0_scratch2
abbrev st2M : Memref sig .tc .vmem S64x512 .f32 := Memref.whole cc0_scratch3

/-- What lands in the three staging buffers of device `c`: the partner's running sum on the rows `c` keeps. -/
def L0 (c : Dev nD) : FVec F S256x512 .f32 :=
  (accM.slice (Rect.unit (s := S512x512) (k0_off2 c) S256x512.size (k0_off2_inb c)) (fun _ => rfl)).view.read (Elt F) (T0 m ρ (peer 0 c))
def L1 (c : Dev nD) : FVec F S128x512 .f32 :=
  (accM.slice (Rect.unit (s := S512x512) (k0_off4 c) S128x512.size (k0_off4_inb c)) (fun _ => rfl)).view.read (Elt F) (T1 m ρ (peer 1 c))
def L2 (c : Dev nD) : FVec F S64x512 .f32 :=
  (accM.slice (Rect.unit (s := S512x512) (k0_off6 c) S64x512.size (k0_off6_inb c)) (fun _ => rfl)).view.read (Elt F) (T2 m ρ (peer 2 c))

/-- Slices of one buffer at equal offsets read alike. -/
theorem read_off {n : ℕ} {off off' : Fin 2 → ℕ} (h : off = off') (p : ∀ a, off a + (⟨2, ![n, 512]⟩ : Shape).size a ≤ S512x512.size a)
    (p' : ∀ a, off' a + (⟨2, ![n, 512]⟩ : Shape).size a ≤ S512x512.size a) (f : S512x512.Idx → Elt F .f32) :
    (accM.slice (Rect.unit (s := S512x512) off (⟨2, ![n, 512]⟩ : Shape).size p) (fun _ => rfl)).view.read (Elt F) f
      = (accM.slice (Rect.unit (s := S512x512) off' (⟨2, ![n, 512]⟩ : Shape).size p') (fun _ => rfl)).view.read (Elt F) f := by
  subst h; rfl

/-- Writing through a view what the view reads of `g` puts `g` on the view's elements. -/
theorem write_read {sp : Space} {s : Shape} {e : EltTy} (v : View sig .tc sp s e) (f g : v.ty.Contents (Elt F)) {i : v.ty.Idx} (hi : i ∈ v.set) :
    v.write (Elt F) f (v.read (Elt F) g) Finset.univ i = g i := by
  obtain ⟨x, -, rfl⟩ := Finset.mem_map.mp hi
  rw [View.write_emb_of_mem _ _ (Finset.mem_univ x)]
  unfold View.read
  rw [cast_cast, cast_eq]

/-- A row slice of a 512 x 512 buffer covers exactly its rows. -/
theorem acc_set {a n : ℕ} {off : Fin 2 → ℕ} (h : off = ![a, 0]) (p : ∀ x, off x + (⟨2, ![n, 512]⟩ : Shape).size x ≤ S512x512.size x) :
    (accM.slice (Rect.unit (s := S512x512) off (⟨2, ![n, 512]⟩ : Shape).size p) (fun _ => rfl)).view.set = rows a n :=
  (View.set_slice_whole cc0_scratch0 _).trans (mem_unit h)
theorem out_set {a n : ℕ} {off : Fin 2 → ℕ} (h : off = ![a, 0]) (p : ∀ x, off x + (⟨2, ![n, 512]⟩ : Shape).size x ≤ S512x512.size x) :
    (outM.slice (Rect.unit (s := S512x512) off (⟨2, ![n, 512]⟩ : Shape).size p) (fun _ => rfl)).view.set = rows a n :=
  (View.set_slice_whole cc0_stg5_0 _).trans (mem_unit h)

end Cert.KernelIdeal.Cube

end
-- ==== Proof.KernelIdeal.Protocol.lean ====
/-
The protocol of the exchange: the thirteen semaphore cells of a device, what each unit of them hands over, what a
device owes when it starts, and in which order the waits may be made.
-/
module

public import proofs.«01_k».proof.Proof.KernelIdeal.Contents

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ) (ρ : Dev nD → PrngReg)

/-! ## The cells -/

/-- The barrier semaphore of the launch. -/
abbrev barS : Sem sig := (SemArray.scalar (sig.barrier 0 rfl) : Sems sig S_).sem

/-- The semaphore a step's sending side waits on; -/
abbrev sendS : Fin 6 → DmaSem sig := fun
  | 0 => ((cc0_scratch4.slice (Rect.unit (s := S3) ![0] S1.size inb_S3_S1_0)).squeeze S_ squeezes_S1_S_).sem
  | 1 => ((cc0_scratch4.slice (Rect.unit (s := S3) ![1] S1.size inb_S3_S1_1)).squeeze S_ squeezes_S1_S_).sem
  | 2 => ((cc0_scratch4.slice (Rect.unit (s := S3) ![2] S1.size inb_S3_S1_2)).squeeze S_ squeezes_S1_S_).sem
  | 3 => ((cc0_scratch6.slice (Rect.unit (s := S3) ![0] S1.size inb_S3_S1_0)).squeeze S_ squeezes_S1_S_).sem
  | 4 => ((cc0_scratch6.slice (Rect.unit (s := S3) ![1] S1.size inb_S3_S1_1)).squeeze S_ squeezes_S1_S_).sem
  | 5 => ((cc0_scratch6.slice (Rect.unit (s := S3) ![2] S1.size inb_S3_S1_2)).squeeze S_ squeezes_S1_S_).sem
/-- and its receiving side. -/
abbrev recvS : Fin 6 → DmaSem sig := fun
  | 0 => ((cc0_scratch5.slice (Rect.unit (s := S3) ![0] S1.size inb_S3_S1_0)).squeeze S_ squeezes_S1_S_).sem
  | 1 => ((cc0_scratch5.slice (Rect.unit (s := S3) ![1] S1.size inb_S3_S1_1)).squeeze S_ squeezes_S1_S_).sem
  | 2 => ((cc0_scratch5.slice (Rect.unit (s := S3) ![2] S1.size inb_S3_S1_2)).squeeze S_ squeezes_S1_S_).sem
  | 3 => ((cc0_scratch7.slice (Rect.unit (s := S3) ![0] S1.size inb_S3_S1_0)).squeeze S_ squeezes_S1_S_).sem
  | 4 => ((cc0_scratch7.slice (Rect.unit (s := S3) ![1] S1.size inb_S3_S1_1)).squeeze S_ squeezes_S1_S_).sem
  | 5 => ((cc0_scratch7.slice (Rect.unit (s := S3) ![2] S1.size inb_S3_S1_2)).squeeze S_ squeezes_S1_S_).sem

/-- A device's cells: its barrier, and a sending (`false`) and a receiving (`true`) one for each step. -/
abbrev Cell : Type := Option (Bool × Fin 6)

def csem : Cell → SemLoc sig
  | none => .reg barS
  | some (false, s) => .dma (sendS s)
  | some (true, s) => .dma (recvS s)

abbrev cellOn (c : Dev nD) (k : Cell) : GSem nD τ sig := ((c : Thread nD τ), csem k)

/-- All the cells in a row. -/
def cells : List Cell :=
  [none, some (false, 0), some (false, 1), some (false, 2), some (false, 3), some (false, 4), some (false, 5),
    some (true, 0), some (true, 1), some (true, 2), some (true, 3), some (true, 4), some (true, 5)]

/-- Which cell a semaphore is. -/
def kind (l : SemLoc sig) : Option Cell := cells.find? fun k => csem k = l

theorem kind_csem (k : Cell) : kind (csem k) = some k := by revert k; decide +kernel

theorem csem_inj {k k' : Cell} (h : csem k = csem k') : k = k' :=
  Option.some.inj ((kind_csem k).symm.trans ((congrArg kind h).trans (kind_csem k')))

theorem cellOn_inj {c c' : Dev nD} {k k' : Cell} (h : cellOn c k = cellOn c' k') : c = c' ∧ k = k' :=
  ⟨congrArg (fun g : GSem nD τ sig => g.1.1) h, csem_inj (congrArg Prod.snd h)⟩

/-- The credit of a step's transfer. -/
def cr : Fin 6 → ℕ := fun
  | 0 | 5 => st0M.view.dmaCredit
  | 1 | 4 => st1M.view.dmaCredit
  | 2 | 3 => st2M.view.dmaCredit

theorem cr_pos (s : Fin 6) : 0 < cr s := by
  fin_cases s <;> exact View.dmaCredit_pos _ (by decide)

/-! ## What is handed over -/

/-- Rows of the accumulator and of the result buffer. -/
def accR (c : Dev nD) (a n : ℕ) (f : S512x512.Idx → Elt F .f32) : sProp 𝕄 := ((c : Thread nD τ).loc cc0_scratch0) ↦[rows a n]{fullShare} f
def outR (c : Dev nD) (a n : ℕ) (f : S512x512.Idx → Elt F .f32) : sProp 𝕄 := ((c : Thread nD τ).loc cc0_stg5_0) ↦[rows a n]{fullShare} f

/-- The landing buffers. -/
def st0P (c : Dev nD) (f : S256x512.Idx → Elt F .f32) : sProp 𝕄 := ((c : Thread nD τ).loc cc0_scratch1) ↦{fullShare} f
def st1P (c : Dev nD) (f : S128x512.Idx → Elt F .f32) : sProp 𝕄 := ((c : Thread nD τ).loc cc0_scratch2) ↦{fullShare} f
def st2P (c : Dev nD) (f : S64x512.Idx → Elt F .f32) : sProp 𝕄 := ((c : Thread nD τ).loc cc0_scratch3) ↦{fullShare} f

/-- What the partner's barrier signal hands device `c`: the partner's landing buffer of that direction, and the rows of
    the partner's result buffer which `c` will fill. -/
def barPay (c : Dev nD) : Fin 3 → sProp 𝕄 := fun
  | 0 => iprop((∃ f, st0P (peer 0 c) f) ∗ ∃ f, outR (peer 5 c) (lo 5 c) 256 f)
  | 1 => iprop((∃ f, st1P (peer 1 c) f) ∗ ∃ f, outR (peer 4 c) (lo 4 c) 128 f)
  | 2 => iprop((∃ f, st2P (peer 2 c) f) ∗ ∃ f, outR (peer 3 c) (lo 3 c) 64 f)

/-- What a finished send hands back: the rows it read. -/
def sendPay (c : Dev nD) : Fin 6 → sProp 𝕄 := fun
  | 0 => accR c (lo 0 c) 256 (T0 m ρ c)
  | 1 => accR c (lo 1 c) 128 (T1 m ρ c)
  | 2 => accR c (lo 2 c) 64 (T2 m ρ c)
  | 3 => outR c (lo 3 c) 64 (Out m ρ)
  | 4 => outR c (lo 4 c) 128 (Out m ρ)
  | 5 => outR c (lo 5 c) 256 (Out m ρ)

/-- What a landed transfer hands the receiver: the landing buffer filled, or the rows of its result buffer filled. -/
def recvPay (c : Dev nD) : Fin 6 → sProp 𝕄 := fun
  | 0 => st0P c (L0 m ρ c)
  | 1 => st1P c (L1 m ρ c)
  | 2 => st2P c (L2 m ρ c)
  | 3 => outR c (lo 3 (peer 3 c)) 64 (Out m ρ)
  | 4 => outR c (lo 4 (peer 4 c)) 128 (Out m ρ)
  | 5 => outR c (lo 5 (peer 5 c)) 256 (Out m ρ)

def pay (c : Dev nD) : Cell → Fin 3 → sProp 𝕄
  | none, d => barPay c d
  | some (false, s), _ => sendPay m ρ c s
  | some (true, s), _ => recvPay m ρ c s

instance pay_storable (c : Dev nD) (k : Cell) (d : Fin 3) : BI.Storable (upEmb : UEmb _ 𝕄) (pay (F := F) m ρ c k d) := by
  rcases k with _ | ⟨_ | _, s⟩
  · fin_cases d <;> (dsimp only [pay, barPay, st0P, st1P, st2P, outR]; infer_instance)
  · fin_cases s <;> (dsimp only [pay, sendPay, accR, outR]; infer_instance)
  · fin_cases s <;> (dsimp only [pay, recvPay, st0P, st1P, st2P, outR]; infer_instance)

/-! ## The schedule -/

def dutiesOf : Cell → Finset (Fin 3)
  | none => Finset.univ
  | some _ => {0}
def amt : Cell → ℕ
  | none => 1
  | some (_, s) => cr s

theorem amt_pos (k : Cell) : 0 < amt k := by rcases k with _ | ⟨b, s⟩; exacts [Nat.one_pos, cr_pos s]

/-- One round: a barrier takes one unit from each of the three partners, every other cell the credit of one transfer. -/
def sched : Rounds.Schedule (GSem nD τ sig) (Fin 3) 𝕄 where
  duties g r := if r = 0 ∧ g.1.2 = .tc then (kind g.2).elim ∅ dutiesOf else ∅
  unitless _ := False
  amount g _ _ := (kind g.2).elim 1 amt
  payload g _ d := (kind g.2).elim iprop(emp) fun k => pay m ρ g.1.1 k d
  amount_pos g _ _ _ := by
    rcases kind g.2 with _ | k
    exacts [Nat.one_pos, amt_pos k]

instance sched_storable (g : GSem nD τ sig) (r : ℕ) (d : Fin 3) :
    BI.Storable (upEmb : UEmb _ 𝕄) ((sched (F := F) m ρ).payload g r d) := by
  dsimp only [sched]
  rcases kind g.2 with _ | k <;> (dsimp only [Option.elim]; infer_instance)

section Sched
variable (c : Dev nD) (k : Cell)

theorem sched_duties : (sched (F := F) m ρ).duties (cellOn c k) 0 = dutiesOf k := by
  dsimp only [sched]; rw [kind_csem, if_pos ⟨rfl, rfl⟩]; rfl
theorem sched_amount (d : Fin 3) : (sched (F := F) m ρ).amount (cellOn c k) 0 d = amt k := by
  dsimp only [sched]; rw [kind_csem]; rfl
theorem sched_payload (d : Fin 3) : (sched (F := F) m ρ).payload (cellOn c k) 0 d = pay m ρ c k d := by
  dsimp only [sched]; rw [kind_csem]; rfl
theorem sched_later (g : GSem nD τ sig) : ∀ r, 1 ≤ r → (sched (F := F) m ρ).duties g r = ∅ :=
  fun r hr => by dsimp only [sched]; exact if_neg fun h => by omega
theorem sched_expect : (sched (F := F) m ρ).expect (cellOn c k) 0 = (dutiesOf k).card * amt k := by
  unfold Schedule.expect Schedule.amountOf
  rw [sched_duties, Finset.sum_congr rfl fun d _ => sched_amount m ρ c k d, Finset.sum_const, smul_eq_mul]

/-- The payloads of a transfer's cell are its one payload. -/
theorem rest_xfer (b : Bool) (s : Fin 6) :
    bigSep ((sched (F := F) m ρ).duties (cellOn c (some (b, s))) 0 \ ∅) (fun d => (sched (F := F) m ρ).payload (cellOn c (some (b, s))) 0 d)
      = pay m ρ c (some (b, s)) 0 := by
  rw [Finset.sdiff_empty, sched_duties, show dutiesOf (some (b, s)) = {0} from rfl, bigSep_singleton, sched_payload]

/-- The payloads of the barrier are those of the three partners. -/
theorem rest_bar : bigSep ((sched (F := F) m ρ).duties (cellOn c none) 0 \ ∅) (fun d => (sched (F := F) m ρ).payload (cellOn c none) 0 d)
      = iprop(barPay c 0 ∗ barPay c 1 ∗ barPay c 2) := by
  rw [Finset.sdiff_empty, sched_duties, show dutiesOf none = Finset.univ from rfl,
    bigSep_univ_eq_bigSepL [0, 1, 2] (by decide) (by decide), bigSepL_cons_cons, bigSepL_cons_cons, bigSepL_singleton,
    sched_payload, sched_payload, sched_payload]
  rfl

end Sched

/-! ## Debts and levels -/

/-- What a transfer of step `s` pays, to the partner's receiving cell. -/
def xfer (c : Dev nD) (s : Fin 6) : CellTallies nD τ sig Unit := tallyAt (cellOn (peer s c) (some (true, s))) () (cr s)

/-- What device `c` still owes when its last transfer is to be made, its last two, and so on. -/
def due1 (c : Dev nD) : CellTallies nD τ sig Unit := 0 + xfer c 5
def due2 (c : Dev nD) : CellTallies nD τ sig Unit := due1 c + xfer c 4
def due3 (c : Dev nD) : CellTallies nD τ sig Unit := due2 c + xfer c 3
def due4 (c : Dev nD) : CellTallies nD τ sig Unit := due3 c + xfer c 2
def due5 (c : Dev nD) : CellTallies nD τ sig Unit := due4 c + xfer c 1
def due6 (c : Dev nD) : CellTallies nD τ sig Unit := due5 c + xfer c 0

/-- What it owes at launch: the six transfers and a unit to each partner's barrier. -/
def O₂ (c : Dev nD) : CellTallies nD τ sig Unit := due6 c + tallyAt (cellOn (pz c) none) () 1
def O₁ (c : Dev nD) : CellTallies nD τ sig Unit := O₂ c + tallyAt (cellOn (py c) none) () 1
def O₀ (c : Dev nD) : CellTallies nD τ sig Unit := O₁ c + tallyAt (cellOn (px c) none) () 1

def L (g : GSem nD τ sig) : Finset Unit := if g.1.2 = .tc then {()} else ∅
/-- Barriers come first, then the receiving cells in the order of the steps; everything else is below. -/
def lvOf : Option Cell → ℕ
  | some none => 1
  | some (some (true, s)) => 2 + s.val
  | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl

/-- Every cell a tally owes is on a core and above level `b`. -/
def Above (b : ℕ) (O : CellTallies nD τ sig Unit) : Prop :=
  ∀ g u, 0 < O g u → g.1.2 = .tc ∧ b < lv g u

theorem above_zero (b : ℕ) : Above b 0 := fun g u h => absurd h (by simp)
theorem above_add {b : ℕ} {O : CellTallies nD τ sig Unit} (h : Above b O) (c : Dev nD) (k : Cell) (n : ℕ) (hk : b < lvOf (some k)) :
    Above b (O + tallyAt (cellOn c k) () n) := fun g u hg => by
  rw [Pi.add_apply, Finsupp.add_apply] at hg
  by_cases h0 : 0 < O g u
  · exact h g u h0
  · have h1 : 0 < tallyAt (cellOn c k) () n g u := by omega
    rw [tallyAt_apply] at h1
    by_cases hgk : g = cellOn c k ∧ u = ()
    · rw [hgk.1]; exact ⟨rfl, by unfold lv; rw [kind_csem]; exact hk⟩
    · rw [if_neg hgk] at h1; exact absurd h1 (Nat.lt_irrefl 0)

theorem above_due1 (c : Dev nD) {b : ℕ} (h : b < 7) : Above b (due1 c) := above_add (above_zero b) (peer 5 c) (some (true, 5)) _ h
theorem above_due2 (c : Dev nD) {b : ℕ} (h : b < 6) : Above b (due2 c) := above_add (above_due1 c (by omega)) (peer 4 c) (some (true, 4)) _ h
theorem above_due3 (c : Dev nD) {b : ℕ} (h : b < 5) : Above b (due3 c) := above_add (above_due2 c (by omega)) (peer 3 c) (some (true, 3)) _ h
theorem above_due4 (c : Dev nD) {b : ℕ} (h : b < 4) : Above b (due4 c) := above_add (above_due3 c (by omega)) (peer 2 c) (some (true, 2)) _ h
theorem above_due5 (c : Dev nD) {b : ℕ} (h : b < 3) : Above b (due5 c) := above_add (above_due4 c (by omega)) (peer 1 c) (some (true, 1)) _ h
theorem above_due6 (c : Dev nD) {b : ℕ} (h : b < 2) : Above b (due6 c) := above_add (above_due5 c (by omega)) (peer 0 c) (some (true, 0)) _ h
theorem above_O₀ (c : Dev nD) : Above 0 (O₀ c) :=
  above_add (above_add (above_add (above_due6 c (by omega)) (pz c) none _ Nat.one_pos) (py c) none _ Nat.one_pos) (px c) none _ Nat.one_pos

/-- A device may wait on a semaphore of its own when everything it owes is above it. -/
theorem mayWait (c : Dev nD) (sm : SemLoc sig) {b : ℕ} (hb : lvOf (kind sm) ≤ b) {O : CellTallies nD τ sig Unit} (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

end Cert.KernelIdeal.Cube

end
-- ==== Proof.KernelIdeal.Steps.lean ====
/-
The steps a device makes, each as one rule: a signal to a partner's barrier, a transfer, a wait, and the loads and
stores on rows of the accumulator and of the result buffer.
-/
module

public import proofs.«01_k».proof.Proof.KernelIdeal.Protocol

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What every device may read: the invariants of all cells, and that their first round is reached. -/
def records (K : Dev nD × Cell → ℕ) : sProp 𝕄 :=
  iprop((bigSep Finset.univ fun ck : Dev nD × Cell => cellInv ER (sched m ρ) (K ck) (cellOn ck.1 ck.2))
    ∗ bigSep Finset.univ fun ck : Dev nD × Cell => reached ER (cellOn ck.1 ck.2) 0)

instance records_persistent (K : Dev nD × Cell → ℕ) : BI.Persistent (records m ρ K) := by unfold records; infer_instance

theorem inv_at (K : Dev nD × Cell → ℕ) (c : Dev nD) (k : Cell) : records m ρ K ⊢ cellInv ER (sched m ρ) (K (c, k)) (cellOn c k) := by
  unfold records
  iintro ⟨H, -⟩
  iapply (show (bigSep Finset.univ fun ck : Dev nD × Cell => (cellInv ER (sched m ρ) (K ck) (cellOn ck.1 ck.2) : sProp 𝕄)) ⊢ cellInv ER (sched m ρ) (K (c, k)) (cellOn c k) from
    bigSep_elim (Finset.mem_univ (c, k)))
  iexact H
theorem reached_at (K : Dev nD × Cell → ℕ) (c : Dev nD) (k : Cell) : records m ρ K ⊢ reached ER (cellOn c k) 0 := by
  unfold records
  iintro ⟨-, H⟩
  iapply (show (bigSep Finset.univ fun ck : Dev nD × Cell => (reached ER (cellOn ck.1 ck.2) 0 : sProp 𝕄)) ⊢ reached ER (cellOn c k) 0 from
    bigSep_elim (Finset.mem_univ (c, k)))
  iexact H

/-- What a device owes, whatever it has waited on. -/
def owing (c : Dev nD) (O : CellTallies nD τ sig Unit) : sProp 𝕄 := iprop(∃ W, owes (c : Thread nD τ) O W)

abbrev tok (c : Dev nD) (k : Cell) (d : Fin 3) : sProp 𝕄 := dutyTok ER (cellOn c k) 0 d
abbrev pos (c : Dev nD) (k : Cell) (R : ℕ) : sProp 𝕄 := atPos ER (cellOn c k) R ∅ 0
/-- The credit a device holds for a transfer it waits for. -/
abbrev got (c : Dev nD) (b : Bool) (s : Fin 6) : sProp 𝕄 := cred (tallyAt (cellOn c (some (b, s))) () (cr s))

section Rules

variable (K : Dev nD × Cell → ℕ) (c : Dev nD)
variable {α : Type} {Q : α → sProp (MT nD τ sig Unit (Elt F) ℕ UU ℕ)}

/-- A signal to a partner's barrier hands over what the partner is to get. -/
theorem signal_step {n n' : Dev nD} (hn : n = n') (d : Fin 3) {k' : ℕ} (hk' : k' = 1) (O : CellTallies nD τ sig Unit)
    {k : PUnit → Prog (TpuEff nD τ sig (Elt F) Λ₀ .tc) α} :
    iprop(records m ρ K ∗ owing c (O + tallyAt (cellOn n' none) () 1) ∗ tok n' none d ∗ barPay n' d)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk'
  unfold owing
  iintro ⟨#HR, ⟨%W, HO⟩, Ht, Hp⟩ Hk
  iapply (Rounds.wp_signal 𝒱₀ ER (sched m ρ) (c : Thread nD τ) none (dst := (n : Thread nD τ)) (κ := K (n, none))
      (d := d) ((sched_duties m ρ n none).symm ▸ Finset.mem_univ d : d ∈ (sched m ρ).duties (cellOn n none) 0) (sched_amount m ρ n none d) () O rfl) $$ [HO Ht Hp]
  · isplitr; · iapply (inv_at m ρ K n none); iexact HR
    isplitl [HO]; · iexact HO
    isplitl [Ht]; · iexact Ht
    isplitl [Hp]; · iapply (Entails.of_eq (show barPay n d = (sched m ρ).payload ((n : Thread nD τ), .reg barS) 0 d from (sched_payload m ρ n none d).symm)); iexact Hp
    iapply (reached_at m ρ K n none); iexact HR
  iintro HO
  iapply Hk
  iexists W; iexact HO

/-- The wait on the barrier returns what the three partners handed over. -/
theorem barrier_step {k' : ℕ} (hk' : k' = 3) {O : CellTallies nD τ sig Unit} (hO : Above 1 O)
    {k : PUnit → Prog (TpuEff nD τ sig (Elt F) Λ₀ .tc) α} :
    iprop(records m ρ K ∗ levAts L lv ∗ cred (tallyAt (cellOn c none) () 3) ∗ owing c O ∗ pos c none 0)
      ⊢ iprop(((owing c O ∗ pos c none 1 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold owing
  iintro ⟨#HR, #Hlev, Hc, ⟨%W, HO⟩, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := O) (W := W) (R := 0) (m := 0) (T := ∅)
      (sched_expect m ρ c none).symm) $$ [Hc HO Hat]
  · isplitr; · iapply (inv_at m ρ K c none); iexact HR
    isplitl [Hc]; · iexact Hc
    isplitl [HO]; · iexact HO
    isplitr; · iapply (mayWait c (.reg barS) (b := 1) (by rw [show kind (.reg barS) = some none from kind_csem none]; exact le_refl _) hO); iexact Hlev
    iexact Hat
  iintro ⟨HO, Hat, -, Hp⟩
  ihave Hp := (Entails.of_eq (show bigSep ((sched (F := F) m ρ).duties ((c : Thread nD τ), .reg barS) 0 \ ∅) (fun d => (sched (F := F) m ρ).payload ((c : Thread nD τ), .reg barS) 0 d) = _ from rest_bar m ρ c)) $$ Hp
  iapply Hk
  isplitl [HO]; · iexists _; iexact HO
  isplitl [Hat]; · iexact Hat
  iexact Hp

/-- A wait for a transfer returns what the transfer's landing, or its having been read, hands over. -/
theorem wait_step (b : Bool) (s : Fin 6) {sm : DmaSem sig} (hsm : csem (some (b, s)) = .dma sm) {v : ℕ} (hv : lvOf (some (some (b, s))) ≤ v)
    {O : CellTallies nD τ sig Unit} (hO : Above v O) {S₁ S₂ : Shape} {src : Memref sig .tc .vmem S₁ .f32} {dst : Memref sig .tc .vmem S₂ .f32}
    (hcr : dst.view.dmaCredit = cr s) {h₁ : src.view.WordExact} {h₂ : dst.view.WordExact}
    {k : PUnit → Prog (TpuEff nD τ sig (Elt F) Λ₀ .tc) α} :
    iprop(records m ρ K ∗ levAts L lv ∗ got c b s ∗ owing c O ∗ pos c (some (b, s)) 0)
      ⊢ iprop(((owing c O ∗ pos c (some (b, s)) 1 ∗ pay m ρ c (some (b, s)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  unfold owing
  iintro ⟨#HR, #Hlev, Hc, ⟨%W, HO⟩, Hat⟩ Hk
  have hcell : (((c : Thread nD τ), SemLoc.dma sm) : GSem nD τ sig) = cellOn c (some (b, s)) := congrArg (Prod.mk (c : Thread nD τ)) hsm.symm
  iapply (Rounds.wp_wait_rest_token 𝒱₀ ER (sched m ρ) (c : Thread nD τ) none (κ := K (c, some (b, s)))
      (wpE_waitDma2_eq 𝒱₀ (c : Thread nD τ) none Set.univ) (Set.mem_univ _) () (O := O) (W := W) (R := 0) (m := 0) (T := ∅)
      (by rw [hcell, Nat.zero_add, sched_expect m ρ c (some (b, s)), hcr]; exact (Nat.one_mul _).symm)) $$ [Hc HO Hat]
  · rw [hcell, hcr]
    isplitr; · iapply (inv_at m ρ K c (some (b, s))); iexact HR
    isplitl [Hc]; · iexact Hc
    isplitl [HO]; · iexact HO
    isplitr; · iapply (mayWait c (.dma sm) (b := v) (by rw [← hsm, kind_csem]; exact hv) hO); iexact Hlev
    iexact Hat
  rw [hcell]
  iintro ⟨HO, Hat, -, Hp⟩
  ihave Hp := (Entails.of_eq (rest_xfer m ρ c b s)) $$ Hp
  iapply Hk
  isplitl [HO]; · iexists _; iexact HO
  isplitl [Hat]; · iexact Hat
  iexact Hp

/-- A transfer to the partner: its source comes back with the sending cell, its destination, rewritten, reaches the
    partner with the receiving one. -/
theorem send_step (s : Fin 6) {n : Dev nD} (hn : n = peer s c) {S₁ : Shape} {src dst : Memref sig .tc .vmem S₁ .f32} {sS sR : DmaSem sig}
    (hS : csem (some (false, s)) = .dma sS) (hR : csem (some (true, s)) = .dma sR)
    (hN : dst.view.dmaCredit = cr s) (O : CellTallies nD τ sig Unit)
    {fs : src.view.ty.Contents (Elt F)} {fd : dst.view.ty.Contents (Elt F)}
    (hp₁ : ((src.view.loc (c : Thread nD τ) ↦[src.view.set]{fullShare} fs) : sProp 𝕄) ⊢ sendPay m ρ c s)
    (hp₂ : ((dst.view.loc (peer s c : Thread nD τ) ↦[dst.view.set]{fullShare} (dst.view.write (Elt F) fd (src.view.read (Elt F) fs) Finset.univ)) : sProp 𝕄)
      ⊢ recvPay m ρ (peer s c) s)
    {hsc : dst.view.ref.isScScratch = false} {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} :
    iprop(records m ρ K ∗ (src.view.loc (c : Thread nD τ) ↦[src.view.set]{fullShare} fs) ∗ (dst.view.loc (peer s c : Thread nD τ) ↦[dst.view.set]{fullShare} fd)
        ∗ owing c (O + xfer c s) ∗ tok c (some (false, s)) 0 ∗ tok (peer s c) (some (true, s)) 0)
      ⊢ iprop(((got c false s ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  unfold owing
  iintro ⟨#HR, Hsrc, Hdst, ⟨%W, HO⟩, Ht₁, Ht₂⟩ Hk
  have e₁ : (((c : Thread nD τ), SemLoc.dma sS) : GSem nD τ sig) = cellOn c (some (false, s)) := congrArg (Prod.mk (c : Thread nD τ)) hS.symm
  have e₂ : (((peer s c : Thread nD τ), SemLoc.dma sR) : GSem nD τ sig) = cellOn (peer s c) (some (true, s)) := congrArg (Prod.mk (peer s c : Thread nD τ)) hR.symm
  iapply (Rounds.wp_send_pointsTo 𝒱₀ ER (sched m ρ) (c : Thread nD τ) none (κ₁ := K (c, some (false, s))) (κ₂ := K (peer s c, some (true, s)))
      (c' := (peer s c : Thread nD τ)) (src := src) (dst := dst) (sS := .dma sS) (sem := .dma sR) (r₁ := 0) (r₂ := 0) (d₁ := 0) (d₂ := 0) (fs := fs) (fd := fd)
      (by rw [e₁, sched_duties]; exact Finset.mem_singleton_self _) (by rw [e₂, sched_duties]; exact Finset.mem_singleton_self _)
      () () (cr s) hN ((congrArg (fun g => (sched m ρ).amount g 0 0) e₁).trans (sched_amount m ρ c _ 0)) ((congrArg (fun g => (sched m ρ).amount g 0 0) e₂).trans (sched_amount m ρ _ _ 0)) O (congrArg (fun g => O + tallyAt g () (cr s)) e₂.symm) (W := W)
      (by rw [e₁, sched_payload]; exact hp₁) (by rw [e₂, sched_payload]; exact hp₂)) $$ [Hsrc Hdst HO Ht₁ Ht₂]
  · rw [e₁, e₂]
    isplitr; · iapply (inv_at m ρ K c (some (false, s))); iexact HR
    isplitr; · iapply (inv_at m ρ K (peer s c) (some (true, s))); iexact HR
    isplitl [Hsrc]; · iexact Hsrc
    isplitl [Hdst]; · iexact Hdst
    isplitl [HO]; · iexact HO
    isplitl [Ht₁]; · iexact Ht₁
    isplitr; · iapply (reached_at m ρ K c (some (false, s))); iexact HR
    isplitl [Ht₂]; · iexact Ht₂
    iapply (reached_at m ρ K (peer s c) (some (true, s))); iexact HR
  rw [e₁]
  iintro ⟨Hc, HO⟩
  iapply Hk
  isplitl [Hc]; · iexact Hc
  iexists W; iexact HO

/-- A cell whose round is over gives its counter back at zero. -/
theorem close_step (k : Cell) : iprop(records m ρ K ∗ pos c k 1) ⊢ (|={Set.univ}=> semVal (cellOn c k) 0 : sProp 𝕄) := by
  iintro ⟨#HR, Hat⟩
  iapply (Rounds.cell_close ER (sched m ρ) (Set.mem_univ (K (c, k))) (fun h => h) (R := 1) (sched_later m ρ (cellOn c k)))
  isplitr; · iapply (inv_at m ρ K c k); iexact HR
  iexact Hat

/-! ## Rows -/

variable {a n : ℕ} {off : Fin 2 → ℕ} {p : ∀ x, off x + (⟨2, ![n, 512]⟩ : Shape).size x ≤ S512x512.size x} {f g : S512x512.Idx → Elt F .f32}

abbrev accV (off : Fin 2 → ℕ) (p : ∀ x, off x + (⟨2, ![n, 512]⟩ : Shape).size x ≤ S512x512.size x) : Memref sig .tc .vmem ⟨2, ![n, 512]⟩ .f32 :=
  accM.slice (Rect.unit (s := S512x512) off (⟨2, ![n, 512]⟩ : Shape).size p) (fun _ => rfl)
abbrev outV (off : Fin 2 → ℕ) (p : ∀ x, off x + (⟨2, ![n, 512]⟩ : Shape).size x ≤ S512x512.size x) : Memref sig .tc .vmem ⟨2, ![n, 512]⟩ .f32 :=
  outM.slice (Rect.unit (s := S512x512) off (⟨2, ![n, 512]⟩ : Shape).size p) (fun _ => rfl)

/-- Rows of a buffer, as the elements of its slice. -/
theorem accR_eq (h : off = ![a, 0]) : (((accV off p).view.loc (c : Thread nD τ) ↦[(accV off p).view.set]{fullShare} f) : sProp 𝕄) = accR c a n f := by
  unfold accR; rw [acc_set h]
theorem outR_eq (h : off = ![a, 0]) : (((outV off p).view.loc (c : Thread nD τ) ↦[(outV off p).view.set]{fullShare} f) : sProp 𝕄) = outR c a n f := by
  unfold outR; rw [out_set h]

/-- Contents that agree on the rows are as good. -/
theorem accR_congr (h : ∀ i ∈ rows a n, f i = g i) : accR c a n f = accR c a n g := pointsTo_congr h
theorem outR_congr (h : ∀ i ∈ rows a n, f i = g i) : outR c a n f = outR c a n g := pointsTo_congr h

theorem load_acc (h : off = ![a, 0]) {hl : accM.view.LoadsAt (Rect.unit (s := S512x512) off (⟨2, ![n, 512]⟩ : Shape).size p).toLoadRect}
    {k : ((⟨2, ![n, 512]⟩ : Shape).Idx → Elt F .f32) → Prog (TpuEff nD τ sig (Elt F) Λ₀ .tc) α} :
    accR c a n f ⊢ iprop((accR c a n f -∗ wp frame (wpE (defs₀ (F := F)) 𝒱₀ (c : Thread nD τ) none) Set.univ (k ((accV off p).view.read (Elt F) f)) Q)
      -∗ wp frame (wpE (defs₀ (F := F)) 𝒱₀ (c : Thread nD τ) none) Set.univ (.op (.load accM (Rect.unit (s := S512x512) off (⟨2, ![n, 512]⟩ : Shape).size p).toLoadRect hl) k) Q) :=
  wp_load_rect 𝒱₀ (c : Thread nD τ) none Set.univ (m := accM) (r := Rect.unit (s := S512x512) off (⟨2, ![n, 512]⟩ : Shape).size p) (acc_set h p).subset
theorem load_out (h : off = ![a, 0]) {hl : outM.view.LoadsAt (Rect.unit (s := S512x512) off (⟨2, ![n, 512]⟩ : Shape).size p).toLoadRect}
    {k : ((⟨2, ![n, 512]⟩ : Shape).Idx → Elt F .f32) → Prog (TpuEff nD τ sig (Elt F) Λ₀ .tc) α} :
    outR c a n f ⊢ iprop((outR c a n f -∗ wp frame (wpE (defs₀ (F := F)) 𝒱₀ (c : Thread nD τ) none) Set.univ (k ((outV off p).view.read (Elt F) f)) Q)
      -∗ wp frame (wpE (defs₀ (F := F)) 𝒱₀ (c : Thread nD τ) none) Set.univ (.op (.load outM (Rect.unit (s := S512x512) off (⟨2, ![n, 512]⟩ : Shape).size p).toLoadRect hl) k) Q) :=
  wp_load_rect 𝒱₀ (c : Thread nD τ) none Set.univ (m := outM) (r := Rect.unit (s := S512x512) off (⟨2, ![n, 512]⟩ : Shape).size p) (out_set h p).subset

/-- Storing to the rows what they have in `g` leaves them at `g`. -/
theorem store_acc (h : off = ![a, 0]) {w : (⟨2, ![n, 512]⟩ : Shape).Idx → Elt F .f32} (hw : w = (accV off p).view.read (Elt F) g)
    {hx} {hm} {k : PUnit → Prog (TpuEff nD τ sig (Elt F) Λ₀ .tc) α} :
    accR c a n f ⊢ iprop((accR c a n g -∗ wp frame (wpE (defs₀ (F := F)) 𝒱₀ (c : Thread nD τ) none) Set.univ (k ⟨⟩) Q)
      -∗ wp frame (wpE (defs₀ (F := F)) 𝒱₀ (c : Thread nD τ) none) Set.univ
          (.op (.store accM (Rect.unit (s := S512x512) off (⟨2, ![n, 512]⟩ : Shape).size p) w Finset.univ hx hm) k) Q) := by
  subst hw
  rw [← accR_congr c (f := (accV off p).view.write (Elt F) f ((accV off p).view.read (Elt F) g) Finset.univ) fun i hi =>
    write_read (accV off p).view f g (by rw [acc_set h]; exact hi)]
  exact wp_store 𝒱₀ (c : Thread nD τ) none Set.univ (m := accM) (r := Rect.unit (s := S512x512) off (⟨2, ![n, 512]⟩ : Shape).size p) (Mk := Finset.univ) (acc_set h p).subset
theorem store_out (h : off = ![a, 0]) {w : (⟨2, ![n, 512]⟩ : Shape).Idx → Elt F .f32} (hw : w = (outV off p).view.read (Elt F) g)
    {hx} {hm} {k : PUnit → Prog (TpuEff nD τ sig (Elt F) Λ₀ .tc) α} :
    outR c a n f ⊢ iprop((outR c a n g -∗ wp frame (wpE (defs₀ (F := F)) 𝒱₀ (c : Thread nD τ) none) Set.univ (k ⟨⟩) Q)
      -∗ wp frame (wpE (defs₀ (F := F)) 𝒱₀ (c : Thread nD τ) none) Set.univ
          (.op (.store outM (Rect.unit (s := S512x512) off (⟨2, ![n, 512]⟩ : Shape).size p) w Finset.univ hx hm) k) Q) := by
  subst hw
  rw [← outR_congr c (f := (outV off p).view.write (Elt F) f ((outV off p).view.read (Elt F) g) Finset.univ) fun i hi =>
    write_read (outV off p).view f g (by rw [out_set h]; exact hi)]
  exact wp_store 𝒱₀ (c : Thread nD τ) none Set.univ (m := outM) (r := Rect.unit (s := S512x512) off (⟨2, ![n, 512]⟩ : Shape).size p) (Mk := Finset.univ) (out_set h p).subset

variable {t b : ℕ}

/-- Rows split in halves, and halves joined. -/
theorem accR_split (h : Halves t n a b) : accR c t (2 * n) f ⊢ iprop(accR c a n f ∗ accR c b n f) := by
  unfold accR; rw [h.union]; exact (pointsTo_union h.disjoint).1
theorem outR_split (h : Halves t n a b) : outR c t (2 * n) f ⊢ iprop(outR c a n f ∗ outR c b n f) := by
  unfold outR; rw [h.union]; exact (pointsTo_union h.disjoint).1
theorem outR_join (h : Halves t n a b) : iprop(outR c a n f ∗ outR c b n f) ⊢ outR c t (2 * n) f := by
  unfold outR; rw [h.union]; exact (pointsTo_union h.disjoint).2
theorem accR_join (h : Halves t n a b) : iprop((∃ f, accR c a n f) ∗ ∃ f, accR c b n f) ⊢ (iprop(∃ f, accR c t (2 * n) f) : sProp 𝕄) := by
  unfold accR; rw [h.union]
  iintro ⟨⟨%f, Hf⟩, ⟨%g, Hg⟩⟩
  iexists ((rows b n).piecewise g f)
  iapply (pointsTo_join h.disjoint)
  isplitl [Hf] <;> iassumption
theorem accR_all : accR c 0 (2 * 256) f = ((((c : Thread nD τ).loc cc0_scratch0) ↦{fullShare} f) : sProp 𝕄) := by unfold accR; rw [rows_all]
theorem outR_all : outR c 0 (2 * 256) f = ((((c : Thread nD τ).loc cc0_stg5_0) ↦{fullShare} f) : sProp 𝕄) := by unfold outR; rw [rows_all]

end Rules

end Cert.KernelIdeal.Cube

end
-- ==== Proof.KernelIdeal.Pieces.lean ====
/-
Bookkeeping of the buffers through the exchange: which rows are held where, what a landing leaves, and that the stores
put the running sums in place.
-/
module

public import proofs.«01_k».proof.Proof.KernelIdeal.Steps
public import Idealize.ShloMosaic.Lib.Pipeline.Value

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The barrier's handings-over -/

theorem barPay_pz : (barPay (pz c) 0 : sProp 𝕄) = iprop((∃ f, st0P c f) ∗ ∃ f, outR c (lo 5 (peer 5 c)) 256 f) := by
  show iprop((∃ f, st0P (peer 0 (peer 0 c)) f) ∗ ∃ f, outR (peer 5 (peer 5 c)) (lo 5 (peer 5 c)) 256 f) = _
  rw [peer_peer 0, peer_peer 5]
theorem barPay_px : (barPay (px c) 1 : sProp 𝕄) = iprop((∃ f, st1P c f) ∗ ∃ f, outR c (lo 4 (peer 4 c)) 128 f) := by
  show iprop((∃ f, st1P (peer 1 (peer 1 c)) f) ∗ ∃ f, outR (peer 4 (peer 4 c)) (lo 4 (peer 4 c)) 128 f) = _
  rw [peer_peer 1, peer_peer 4]
theorem barPay_py : (barPay (py c) 2 : sProp 𝕄) = iprop((∃ f, st2P c f) ∗ ∃ f, outR c (lo 3 (peer 3 c)) 64 f) := by
  show iprop((∃ f, st2P (peer 2 (peer 2 c)) f) ∗ ∃ f, outR (peer 3 (peer 3 c)) (lo 3 (peer 3 c)) 64 f) = _
  rw [peer_peer 2, peer_peer 3]

/-! ## Rows of the result buffer -/

variable {f : S512x512.Idx → Elt F .f32}

/-- Each doubling step joins what was held with what landed, -/
theorem out_grow3 : iprop(outR c (lo 3 c) 64 f ∗ outR c (lo 3 (peer 3 c)) 64 f) ⊢ (outR c (lo 4 c) 128 f : sProp 𝕄) := outR_join c (n := 64) (halves4 c)
theorem out_grow4 : iprop(outR c (lo 4 c) 128 f ∗ outR c (lo 4 (peer 4 c)) 128 f) ⊢ (outR c (lo 5 c) 256 f : sProp 𝕄) := outR_join c (n := 128) (halves5 c)
theorem out_grow5 : iprop(outR c (lo 5 c) 256 f ∗ outR c (lo 5 (peer 5 c)) 256 f) ⊢ ((((c : Thread nD τ).loc cc0_stg5_0) ↦{fullShare} f) : sProp 𝕄) := by
  rw [← outR_all c]; exact outR_join c (n := 256) (halves6 c)

/-- and before the first the buffer is parted into the device's own rows and the three that will land. -/
theorem out_part : ((((c : Thread nD τ).loc cc0_stg5_0) ↦{fullShare} f) : sProp 𝕄)
    ⊢ iprop(outR c (lo 3 c) 64 f ∗ outR c (lo 3 (peer 3 c)) 64 f ∗ outR c (lo 4 (peer 4 c)) 128 f ∗ outR c (lo 5 (peer 5 c)) 256 f) := by
  have h6 : ((((c : Thread nD τ).loc cc0_stg5_0) ↦{fullShare} f) : sProp 𝕄) ⊢ iprop(outR c (lo 5 c) 256 f ∗ outR c (lo 5 (peer 5 c)) 256 f) := by
    rw [← outR_all c]; exact outR_split c (n := 256) (halves6 c)
  have h5 : outR c (lo 5 c) 256 f ⊢ (iprop(outR c (lo 4 c) 128 f ∗ outR c (lo 4 (peer 4 c)) 128 f) : sProp 𝕄) := outR_split c (n := 128) (halves5 c)
  have h4 : outR c (lo 4 c) 128 f ⊢ (iprop(outR c (lo 3 c) 64 f ∗ outR c (lo 3 (peer 3 c)) 64 f) : sProp 𝕄) := outR_split c (n := 64) (halves4 c)
  iintro H
  ihave H := h6 $$ H
  icases H with ⟨H, H5⟩
  ihave H := h5 $$ H
  icases H with ⟨H, H4⟩
  ihave H := h4 $$ H
  icases H with ⟨H, H3⟩
  isplitl [H]; · iexact H
  isplitl [H3]; · iexact H3
  isplitl [H4]; · iexact H4
  iexact H5

/-! ## Rows of the accumulator -/

/-- Each halving step parts what is held into what is sent and what is kept, -/
theorem acc_half0 : ((((c : Thread nD τ).loc cc0_scratch0) ↦{fullShare} f) : sProp 𝕄) ⊢ iprop(accR c (lo 0 c) 256 f ∗ accR c (lo 0 (peer 0 c)) 256 f) := by
  rw [← accR_all c]; exact accR_split c (n := 256) (halves0 c)
theorem acc_half1 : accR c (lo 0 (peer 0 c)) 256 f ⊢ (iprop(accR c (lo 1 c) 128 f ∗ accR c (lo 1 (peer 1 c)) 128 f) : sProp 𝕄) := accR_split c (n := 128) (halves1 c)
theorem acc_half2 : accR c (lo 1 (peer 1 c)) 128 f ⊢ (iprop(accR c (lo 2 c) 64 f ∗ accR c (lo 3 c) 64 f) : sProp 𝕄) := by
  rw [← lo_three]; exact accR_split c (n := 64) (halves2 c)

/-- and the parts make up the buffer again. -/
theorem acc_whole : iprop((∃ f, accR c (lo 0 c) 256 f) ∗ (∃ f, accR c (lo 1 c) 128 f) ∗ (∃ f, accR c (lo 2 c) 64 f) ∗ ∃ f, accR c (lo 3 c) 64 f)
    ⊢ (iprop(∃ f : Buf (Elt F) ((c : Thread nD τ).loc cc0_scratch0), ((c : Thread nD τ).loc cc0_scratch0) ↦{fullShare} f) : sProp 𝕄) := by
  have h2 : iprop((∃ f, accR c (lo 2 c) 64 f) ∗ ∃ f, accR c (lo 2 (peer 2 c)) 64 f) ⊢ (iprop(∃ f, accR c (lo 1 (peer 1 c)) 128 f) : sProp 𝕄) := accR_join c (n := 64) (halves2 c)
  have h1 : iprop((∃ f, accR c (lo 1 c) 128 f) ∗ ∃ f, accR c (lo 1 (peer 1 c)) 128 f) ⊢ (iprop(∃ f, accR c (lo 0 (peer 0 c)) 256 f) : sProp 𝕄) := accR_join c (n := 128) (halves1 c)
  have h0 : iprop((∃ f, accR c (lo 0 c) 256 f) ∗ ∃ f, accR c (lo 0 (peer 0 c)) 256 f) ⊢ (iprop(∃ f, accR c 0 (2 * 256) f) : sProp 𝕄) := accR_join c (n := 256) (halves0 c)
  simp only [accR_all c] at h0
  rw [lo_three] at h2
  iintro ⟨H0, H1, H2, H3⟩
  iapply h0
  isplitl [H0]; · iexact H0
  iapply h1
  isplitl [H1]; · iexact H1
  iapply h2
  isplitl [H2] <;> iassumption

/-! ## What lands -/

/-- A whole buffer written whole holds what was written. -/
theorem whole_landed (d : Dev nD) (b : Ref sig .tc) (fd w : b.ty.Contents (Elt F)) :
    (((Memref.whole b).view.loc (d : Thread nD τ) ↦[(Memref.whole b).view.set]{fullShare} ((Memref.whole b).view.write (Elt F) fd w Finset.univ)) : sProp 𝕄)
      = (((d : Thread nD τ).loc b) ↦{fullShare} w) := by
  show (((View.whole b).loc (d : Thread nD τ) ↦[(View.whole b).set]{fullShare} ((View.whole b).write (Elt F) fd w Finset.univ)) : sProp 𝕄) = _
  rw [View.set_whole, View.write_whole_univ]

/-- A transfer of a halving step fills the partner's landing buffer. -/
theorem land0 (fd : S256x512.Idx → Elt F .f32) :
    ((st0M.view.loc (peer 0 c : Thread nD τ) ↦[st0M.view.set]{fullShare}
        (st0M.view.write (Elt F) fd ((accV (k0_off1 c) (k0_off1_inb c)).view.read (Elt F) (T0 m ρ c)) Finset.univ)) : sProp 𝕄) ⊢ recvPay m ρ (peer 0 c) 0 := by
  show _ ⊢ st0P (peer 0 c) (L0 m ρ (peer 0 c))
  unfold st0P L0
  rw [peer_peer, read_off (n := 256) (by rw [← off1_peer, peer_peer] : k0_off2 (peer 0 c) = k0_off1 c) _ (k0_off1_inb c)]
  exact Entails.of_eq (whole_landed (peer 0 c) cc0_scratch1 fd _)
theorem land1 (fd : S128x512.Idx → Elt F .f32) :
    ((st1M.view.loc (peer 1 c : Thread nD τ) ↦[st1M.view.set]{fullShare}
        (st1M.view.write (Elt F) fd ((accV (k0_off3 c) (k0_off3_inb c)).view.read (Elt F) (T1 m ρ c)) Finset.univ)) : sProp 𝕄) ⊢ recvPay m ρ (peer 1 c) 1 := by
  show _ ⊢ st1P (peer 1 c) (L1 m ρ (peer 1 c))
  unfold st1P L1
  rw [peer_peer, read_off (n := 128) (by rw [← off3_peer, peer_peer] : k0_off4 (peer 1 c) = k0_off3 c) _ (k0_off3_inb c)]
  exact Entails.of_eq (whole_landed (peer 1 c) cc0_scratch2 fd _)
theorem land2 (fd : S64x512.Idx → Elt F .f32) :
    ((st2M.view.loc (peer 2 c : Thread nD τ) ↦[st2M.view.set]{fullShare}
        (st2M.view.write (Elt F) fd ((accV (k0_off5 c) (k0_off5_inb c)).view.read (Elt F) (T2 m ρ c)) Finset.univ)) : sProp 𝕄) ⊢ recvPay m ρ (peer 2 c) 2 := by
  show _ ⊢ st2P (peer 2 c) (L2 m ρ (peer 2 c))
  unfold st2P L2
  rw [peer_peer, read_off (n := 64) (by rw [← off5_peer, peer_peer] : k0_off6 (peer 2 c) = k0_off5 c) _ (k0_off5_inb c)]
  exact Entails.of_eq (whole_landed (peer 2 c) cc0_scratch3 fd _)

/-- A transfer of a doubling step puts the final values on the partner's rows. -/
theorem land_out (d : Dev nD) {a n : ℕ} {off : Fin 2 → ℕ} {p : ∀ x, off x + (⟨2, ![n, 512]⟩ : Shape).size x ≤ S512x512.size x} (h : off = ![a, 0])
    (fd : S512x512.Idx → Elt F .f32) :
    (((outV off p).view.loc (d : Thread nD τ) ↦[(outV off p).view.set]{fullShare}
        ((outV off p).view.write (Elt F) fd ((outV off p).view.read (Elt F) f) Finset.univ)) : sProp 𝕄) ⊢ outR d a n f := by
  rw [outR_eq d h]
  exact Entails.of_eq (outR_congr d fun i hi => write_read (outV off p).view fd f (by rw [out_set h]; exact hi))

theorem land3 (fd : S512x512.Idx → Elt F .f32) :
    (((outV (k0_off7 c) (k0_off7_inb c)).view.loc (peer 3 c : Thread nD τ) ↦[(outV (n := 64) (k0_off7 c) (k0_off7_inb c)).view.set]{fullShare}
        ((outV (k0_off7 c) (k0_off7_inb c)).view.write (Elt F) fd ((outV (k0_off7 c) (k0_off7_inb c)).view.read (Elt F) (Out m ρ)) Finset.univ)) : sProp 𝕄)
      ⊢ recvPay m ρ (peer 3 c) 3 := by
  show _ ⊢ outR (peer 3 c) (lo 3 (peer 3 (peer 3 c))) 64 (Out m ρ)
  rw [peer_peer]; exact land_out (peer 3 c) (off7_eq c) fd
theorem land4 (fd : S512x512.Idx → Elt F .f32) :
    (((outV (k0_off8 c) (k0_off8_inb c)).view.loc (peer 4 c : Thread nD τ) ↦[(outV (n := 128) (k0_off8 c) (k0_off8_inb c)).view.set]{fullShare}
        ((outV (k0_off8 c) (k0_off8_inb c)).view.write (Elt F) fd ((outV (k0_off8 c) (k0_off8_inb c)).view.read (Elt F) (Out m ρ)) Finset.univ)) : sProp 𝕄)
      ⊢ recvPay m ρ (peer 4 c) 4 := by
  show _ ⊢ outR (peer 4 c) (lo 4 (peer 4 (peer 4 c))) 128 (Out m ρ)
  rw [peer_peer]; exact land_out (peer 4 c) (off8_eq c) fd
theorem land5 (fd : S512x512.Idx → Elt F .f32) :
    (((outV (k0_off9 c) (k0_off9_inb c)).view.loc (peer 5 c : Thread nD τ) ↦[(outV (n := 256) (k0_off9 c) (k0_off9_inb c)).view.set]{fullShare}
        ((outV (k0_off9 c) (k0_off9_inb c)).view.write (Elt F) fd ((outV (k0_off9 c) (k0_off9_inb c)).view.read (Elt F) (Out m ρ)) Finset.univ)) : sProp 𝕄)
      ⊢ recvPay m ρ (peer 5 c) 5 := by
  show _ ⊢ outR (peer 5 c) (lo 5 (peer 5 (peer 5 c))) 256 (Out m ρ)
  rw [peer_peer]; exact land_out (peer 5 c) (off9_eq c) fd

/-! ## The stores -/

/-- What a halving step stores is the next running sum on the kept rows, -/
theorem add0 : k0_pay7 ((accV (k0_off2 c) (k0_off2_inb c)).view.read (Elt F) (T0 m ρ c)) (L0 m ρ c) = (accV (k0_off2 c) (k0_off2_inb c)).view.read (Elt F) (T1 m ρ c) := by
  unfold k0_pay7; dsimp only; rw [shapeCast_self]; rfl
theorem add1 : k0_pay8 ((accV (k0_off4 c) (k0_off4_inb c)).view.read (Elt F) (T1 m ρ c)) (L1 m ρ c) = (accV (k0_off4 c) (k0_off4_inb c)).view.read (Elt F) (T2 m ρ c) := by
  unfold k0_pay8; dsimp only; rw [shapeCast_self]; rfl
theorem add2 : k0_pay9 ((accV (k0_off6 c) (k0_off6_inb c)).view.read (Elt F) (T2 m ρ c)) (L2 m ρ c) = (accV (k0_off6 c) (k0_off6_inb c)).view.read (Elt F) (T3 m ρ c) := by
  unfold k0_pay9; dsimp only; rw [shapeCast_self]; rfl

/-- and the device's own rows of the sum over all are its rows of the result. -/
theorem own_out : (accV (n := 64) (k0_off6 c) (k0_off6_inb c)).view.read (Elt F) (T3 m ρ c) = (outV (n := 64) (k0_off6 c) (k0_off6_inb c)).view.read (Elt F) (Out m ρ) := by
  funext x
  exact Out_own m ρ c (i := (outV (n := 64) (k0_off6 c) (k0_off6_inb c)).view.emb x)
    (by rw [← out_set (off6_lo c) (k0_off6_inb c)]; exact Finset.mem_map_of_mem _ (Finset.mem_univ x))

end Cert.KernelIdeal.Cube

end
-- ==== Proof.KernelIdeal.Start.lean ====
/-
What a device holds when the kernel starts and when it ends.
-/
module

public import proofs.«01_k».proof.Proof.KernelIdeal.Steps

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts with and leaves -/

/-- A conjunction over the cells, written out. -/
theorem bigSep_cells (Φ : Cell → sProp (MT nD τ sig Unit (Elt F) ℕ UU ℕ)) : bigSep Finset.univ Φ
    = iprop(Φ none ∗ Φ (some (false, 0)) ∗ Φ (some (false, 1)) ∗ Φ (some (false, 2)) ∗ Φ (some (false, 3)) ∗ Φ (some (false, 4)) ∗ Φ (some (false, 5))
      ∗ Φ (some (true, 0)) ∗ Φ (some (true, 1)) ∗ Φ (some (true, 2)) ∗ Φ (some (true, 3)) ∗ Φ (some (true, 4)) ∗ Φ (some (true, 5))) :=
  bigSep_univ_eq_bigSepL cells (by decide) (by decide) Φ
/-- The same over the steps. -/
theorem bigSep_steps (Φ : Fin 6 → sProp (MT nD τ sig Unit (Elt F) ℕ UU ℕ)) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The tokens of what device `c` pays: a unit of each partner's barrier, and both ends of its six transfers. -/
def payToks (c : Dev nD) : sProp 𝕄 :=
  iprop((tok (pz c) none 0 ∗ tok (px c) none 1 ∗ tok (py c) none 2)
    ∗ (bigSep Finset.univ fun s : Fin 6 => tok c (some (false, s)) 0) ∗ bigSep Finset.univ fun s : Fin 6 => tok (peer s c) (some (true, s)) 0)
/-- What stays with device `c`: where its cells stand, and those tokens. -/
def linear (c : Dev nD) : sProp 𝕄 := iprop((bigSep Finset.univ fun k : Cell => pos c k 0) ∗ payToks c)
/-- That together with the records of all cells. -/
def ghost (K : Dev nD × Cell → ℕ) (c : Dev nD) : sProp 𝕄 := iprop(records m ρ K ∗ linear c)

/-- The credit of what it waits for: three units of its barrier and the six landings. -/
def credits (c : Dev nD) : sProp 𝕄 :=
  iprop(cred (tallyAt (cellOn c none) () 3) ∗ bigSep Finset.univ fun s : Fin 6 => got c true s)

/-- What a device starts with. -/
def start (c : Dev nD) : sProp 𝕄 := iprop((∃ K, ghost m ρ K c) ∗ credits c ∗ levAts L lv)

/-- The scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f, st0P c f) ∗ (∃ f, st1P c f) ∗ ∃ f, st2P c f)

/-- What it starts with, scratch buffers included, -/
def Φ₀ (c : Dev nD) : sProp 𝕄 := iprop(start m ρ c ∗ scratch c)
/-- and what it leaves: the scratch buffers and its counters at zero. -/
def Φ₁ (c : Dev nD) : sProp 𝕄 := iprop(scratch c ∗ bigSep Finset.univ fun k : Cell => semVal (cellOn c k) 0)

/-- The data of the launch: arrays, staged contents, what holds and what is owed before and after the one grid point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => in0 m ρ c
    | ⟨1, _⟩ => in1 m ρ c
    | ⟨2, _⟩ => in2 m ρ c
    | ⟨3, _⟩ => in3 m ρ c
    | ⟨4, _⟩ => in4 m ρ c
    | ⟨5, _⟩ => Out m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.KernelIdeal.Cube

end
-- ==== Proof.KernelIdeal.Body.lean ====
/-
The kernel's body, run on a symbolic device from what the device starts with to what it leaves.
-/
module

public import proofs.«01_k».proof.Proof.KernelIdeal.Pieces
public import proofs.«01_k».proof.Proof.KernelIdeal.Start
public import proofs.«01_k».proof.Proof.Gen.KernelIdeal.Points

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 (in0 m ρ c) ∗ stg c cc0_stg1_0 (in1 m ρ c) ∗ stg c cc0_stg2_0 (in2 m ρ c) ∗ stg c cc0_stg3_0 (in3 m ρ c) ∗ stg c cc0_stg4_0 (in4 m ρ c)
    ∗ stg c cc0_stg5_0 (Out m ρ))

/-! ## Loads and stores of whole buffers -/

theorem hz : (![0, 0] : Fin 2 → Nat) = fun _ => 0 := funext fun a => by fin_cases a <;> rfl

/-- A store to the whole accumulator leaves what was stored. -/
theorem write_acc (f w : (cc0_scratch0 : Ref sig .tc).ty.Contents (Elt F)) :
    (accM.access (Rect.unit (s := S512x512) ![0, 0] S512x512.size inb_S512x512_S512x512_0_0) : View sig .tc _ _ _).write (Elt F) f w Finset.univ = w :=
  Memref.write_access_unit_zero_univ (Elt F) cc0_scratch0 hz _ f w

variable (K : Dev nD × Cell → ℕ) (c : Dev nD)

/-- All the cells, their rounds over, give their counters back. -/
theorem close_all : iprop(records m ρ K ∗ bigSep Finset.univ fun k : Cell => pos c k 1)
    ⊢ (|={Set.univ}=> bigSep Finset.univ fun k : Cell => semVal (cellOn c k) 0 : sProp 𝕄) :=
  (sep_mono_left (BI.bigSep_of_persistent Finset.univ (records m ρ K))).trans (by
    rw [← bigSep_sep']
    exact (bigSep_mono fun k _ => close_step m ρ K c k).trans (bigSep_fupd _ _))

/-! ## The body -/

set_option maxHeartbeats 8000000 in
set_option maxRecDepth 8000 in
/-- The body runs from what the device starts with, one rule per operation, to what it leaves. -/
theorem sound_body (Kt : PUnit → sProp (MT nD τ sig Unit (Elt F) ℕ UU ℕ)) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre Φ₀ start ghost linear payToks credits scratch
  simp only [bigSep_cells, bigSep_steps]
  iintro ⟨⟨⟨⟨⟨%K, #HR, ⟨PB, PS0, PS1, PS2, PS3, PS4, PS5, PR0, PR1, PR2, PR3, PR4, PR5⟩, ⟨TZ, TX, TY⟩, ⟨TS0, TS1, TS2, TS3, TS4, TS5⟩, ⟨TR0, TR1, TR2, TR3, TR4, TR5⟩⟩,
      ⟨CB, CR0, CR1, CR2, CR3, CR4, CR5⟩, #Hlev⟩, ⟨%fa, Hacc⟩, St0, St1, St2⟩,
    Ho, ⟨%d0, %g0, %hg0, I0⟩, ⟨%d1, %g1, %hg1, I1⟩, ⟨%d2, %g2, %hg2, I2⟩, ⟨%d3, %g3, %hg3, I3⟩, ⟨%d4, %g4, %hg4, I4⟩, ⟨%d5, %g5, %hg5, Hout⟩⟩, Hk⟩
  have hx0 : g0 = in0 m ρ c := by rw [hg0]; unfold Dat.before; rw [if_pos (fetch0_0 t0_0)]; rfl
  subst hx0
  have hx1 : g1 = in1 m ρ c := by rw [hg1]; unfold Dat.before; rw [if_pos (fetch0_1 t0_0)]; rfl
  subst hx1
  have hx2 : g2 = in2 m ρ c := by rw [hg2]; unfold Dat.before; rw [if_pos (fetch0_2 t0_0)]; rfl
  subst hx2
  have hx3 : g3 = in3 m ρ c := by rw [hg3]; unfold Dat.before; rw [if_pos (fetch0_3 t0_0)]; rfl
  subst hx3
  have hx4 : g4 = in4 m ρ c := by rw [hg4]; unfold Dat.before; rw [if_pos (fetch0_4 t0_0)]; rfl
  subst hx4
  unfold Dat.owesAt Pipeline.owesWithin
  icases Ho with ⟨%W, %hW, HO⟩
  rw [show (dats m ρ 0 c).owed t0_0.castSucc = O₀ c from rfl]
  ihave HO : (owing c (O₀ c)) $$ [HO]
  · unfold owing; iexists W; iexact HO
  ihave Hout := (out_part c) $$ Hout
  icases Hout with ⟨Own, Out3, Out4, Out5⟩
  -- the three signals, each handing a partner what it will fill
  unfold O₀
  iapply (signal_step m ρ K c (dev1_eq c) 1 (by decide) (O₁ c)) $$ [HO TX St1 Out4]
  · isplitr; · iexact HR
    isplitl [HO]; · iexact HO
    isplitl [TX]; · iexact TX
    rw [barPay_px]
    isplitl [St1]; · iexact St1
    iexists _; iexact Out4
  iintro HO
  unfold O₁
  iapply (signal_step m ρ K c (dev2_eq c) 2 (by decide) (O₂ c)) $$ [HO TY St2 Out3]
  · isplitr; · iexact HR
    isplitl [HO]; · iexact HO
    isplitl [TY]; · iexact TY
    rw [barPay_py]
    isplitl [St2]; · iexact St2
    iexists _; iexact Out3
  iintro HO
  unfold O₂
  iapply (signal_step m ρ K c (dev3_eq c) 0 (by decide) (due6 c)) $$ [HO TZ St0 Out5]
  · isplitr; · iexact HR
    isplitl [HO]; · iexact HO
    isplitl [TZ]; · iexact TZ
    rw [barPay_pz]
    isplitl [St0]; · iexact St0
    iexists _; iexact Out5
  iintro HO
  -- the wait for all three
  iapply (barrier_step m ρ K c (by decide) (above_due6 c (by decide))) $$ [CB HO PB]
  · isplitr; · iexact HR
    isplitr; · iexact Hlev
    isplitl [CB]; · iexact CB
    isplitl [HO]; · iexact HO
    iexact PB
  iintro ⟨HO, PB, B0, B1, B2⟩
  unfold barPay
  icases B0 with ⟨⟨%fz, St0⟩, ⟨%oz, Out5⟩⟩
  icases B1 with ⟨⟨%fx, St1⟩, ⟨%ox, Out4⟩⟩
  icases B2 with ⟨⟨%fy, St2⟩, ⟨%oy, Out3⟩⟩
  -- the partial result
  iapply (wp_load 𝒱₀ (c : Thread nD τ) none Set.univ (m := Memref.whole cc0_stg0_0) (Finset.subset_univ _)) $$ I0; iintro I0
  rw [show (Memref.whole cc0_stg0_0 : Memref sig .tc .vmem _ _).view.readAt (Elt F) _ (in0 m ρ c) = in0 m ρ c from Memref.readAt_unit_zero (Elt F) cc0_stg0_0 hz _ _]
  iapply (wp_load 𝒱₀ (c : Thread nD τ) none Set.univ (m := Memref.whole cc0_stg2_0) (Finset.subset_univ _)) $$ I2; iintro I2
  rw [show (Memref.whole cc0_stg2_0 : Memref sig .tc .vmem _ _).view.readAt (Elt F) _ (in2 m ρ c) = in2 m ρ c from Memref.readAt_unit_zero (Elt F) cc0_stg2_0 hz _ _]
  iapply (wp_load 𝒱₀ (c : Thread nD τ) none Set.univ (m := Memref.whole cc0_stg1_0) (Finset.subset_univ _)) $$ I1; iintro I1
  rw [show (Memref.whole cc0_stg1_0 : Memref sig .tc .vmem _ _).view.readAt (Elt F) _ (in1 m ρ c) = in1 m ρ c from Memref.readAt_unit_zero (Elt F) cc0_stg1_0 hz _ _]
  iapply (wp_load 𝒱₀ (c : Thread nD τ) none Set.univ (m := Memref.whole cc0_stg4_0) (Finset.subset_univ _)) $$ I4; iintro I4
  rw [show (Memref.whole cc0_stg4_0 : Memref sig .tc .vmem _ _).view.readAt (Elt F) _ (in4 m ρ c) = in4 m ρ c from Memref.readAt_unit_zero (Elt F) cc0_stg4_0 hz _ _]
  iapply (wp_load 𝒱₀ (c : Thread nD τ) none Set.univ (m := Memref.whole cc0_stg3_0) (Finset.subset_univ _)) $$ I3; iintro I3
  iapply (wp_load 𝒱₀ (c : Thread nD τ) none Set.univ (m := Memref.whole cc0_stg3_0) (Finset.subset_univ _)) $$ I3; iintro I3
  iapply (wp_load 𝒱₀ (c : Thread nD τ) none Set.univ (m := Memref.whole cc0_stg3_0) (Finset.subset_univ _)) $$ I3; iintro I3
  iapply (wp_load 𝒱₀ (c : Thread nD τ) none Set.univ (m := Memref.whole cc0_stg3_0) (Finset.subset_univ _)) $$ I3; iintro I3
  iapply (wp_load 𝒱₀ (c : Thread nD τ) none Set.univ (m := accM) (Finset.subset_univ _)) $$ Hacc; iintro Hacc
  iapply (wp_store 𝒱₀ (c : Thread nD τ) none Set.univ (m := accM) (r := Rect.unit (s := S512x512) ![0, 0] S512x512.size inb_S512x512_S512x512_0_0) (Mk := Finset.univ) (Finset.subset_univ _)) $$ Hacc; iintro Hacc
  rw [write_acc]
  rw [show (k0_pay6 _ : FVec F S512x512 .f32) = T0 m ρ c from rfl]
  -- halving step 0
  ihave Hacc := (acc_half0 c) $$ Hacc
  icases Hacc with ⟨Snd, Hacc⟩
  ihave Snd := (Entails.of_eq (accR_eq c (p := k0_off1_inb c) (off1_eq c)).symm) $$ Snd
  iapply (send_step m ρ K c 0 (dev4_eq c) (src := accV (n := 256) (k0_off1 c) (k0_off1_inb c)) (dst := st0M) rfl rfl rfl (due5 c)
      (Entails.of_eq (accR_eq c (off1_eq c))) (land0 m ρ c fz)) $$ [Snd St0 HO TS0 TR0]
  · isplitr; · iexact HR
    isplitl [Snd]; · iexact Snd
    isplitl [St0]; · iapply (Entails.of_eq (by rw [show st0M.view.set = Finset.univ from View.set_whole cc0_scratch1]; rfl : (st0P (peer 0 c) fz : sProp 𝕄) = _)); iexact St0
    isplitl [HO]; · iexact HO
    isplitl [TS0]; · iexact TS0
    iexact TR0
  iintro ⟨CS, HO⟩
  iapply (wait_step m ρ K c false 0 (v := 0) (src := st0M) (dst := accV (n := 256) (k0_off1 c) (k0_off1_inb c)) rfl (by decide) (above_due5 c (by decide)) rfl) $$ [CS HO PS0]
  · isplitr; · iexact HR
    isplitr; · iexact Hlev
    isplitl [CS]; · iexact CS
    isplitl [HO]; · iexact HO
    iexact PS0
  iintro ⟨HO, PS0, Snt0⟩
  iapply (wait_step m ρ K c true 0 (v := 2) (src := accV (n := 256) (k0_off1 c) (k0_off1_inb c)) (dst := st0M) rfl (by decide) (above_due5 c (by decide)) rfl) $$ [CR0 HO PR0]
  · isplitr; · iexact HR
    isplitr; · iexact Hlev
    isplitl [CR0]; · iexact CR0
    isplitl [HO]; · iexact HO
    iexact PR0
  iintro ⟨HO, PR0, St0⟩
  ihave St0 := (show pay m ρ c (some (true, 0)) 0 ⊢ ((((c : Thread nD τ).loc cc0_scratch1) ↦{fullShare} L0 m ρ c) : sProp 𝕄) from BI.Entails.refl _) $$ St0
  iapply (load_acc c (off2_eq c)) $$ Hacc; iintro Hacc
  iapply (wp_load 𝒱₀ (c : Thread nD τ) none Set.univ (m := st0M) (Finset.subset_univ _)) $$ St0; iintro St0
  rw [show st0M.view.readAt (Elt F) _ (L0 m ρ c) = L0 m ρ c from Memref.readAt_unit_zero (Elt F) cc0_scratch1 hz _ _]
  iapply (load_acc c (off2_eq c)) $$ Hacc; iintro Hacc
  iapply (store_acc c (off2_eq c) (add0 m ρ c)) $$ Hacc; iintro Hacc
  -- halving step 1
  ihave Hacc := (acc_half1 c) $$ Hacc
  icases Hacc with ⟨Snd, Hacc⟩
  ihave Snd := (Entails.of_eq (accR_eq c (p := k0_off3_inb c) (off3_eq c)).symm) $$ Snd
  iapply (send_step m ρ K c 1 (dev5_eq c) (src := accV (n := 128) (k0_off3 c) (k0_off3_inb c)) (dst := st1M) rfl rfl rfl (due4 c)
      (Entails.of_eq (accR_eq c (off3_eq c))) (land1 m ρ c fx)) $$ [Snd St1 HO TS1 TR1]
  · isplitr; · iexact HR
    isplitl [Snd]; · iexact Snd
    isplitl [St1]; · iapply (Entails.of_eq (by rw [show st1M.view.set = Finset.univ from View.set_whole cc0_scratch2]; rfl : (st1P (peer 1 c) fx : sProp 𝕄) = _)); iexact St1
    isplitl [HO]; · iexact HO
    isplitl [TS1]; · iexact TS1
    iexact TR1
  iintro ⟨CS, HO⟩
  iapply (wait_step m ρ K c false 1 (v := 0) (src := st1M) (dst := accV (n := 128) (k0_off3 c) (k0_off3_inb c)) rfl (by decide) (above_due4 c (by decide)) rfl) $$ [CS HO PS1]
  · isplitr; · iexact HR
    isplitr; · iexact Hlev
    isplitl [CS]; · iexact CS
    isplitl [HO]; · iexact HO
    iexact PS1
  iintro ⟨HO, PS1, Snt1⟩
  iapply (wait_step m ρ K c true 1 (v := 3) (src := accV (n := 128) (k0_off3 c) (k0_off3_inb c)) (dst := st1M) rfl (by decide) (above_due4 c (by decide)) rfl) $$ [CR1 HO PR1]
  · isplitr; · iexact HR
    isplitr; · iexact Hlev
    isplitl [CR1]; · iexact CR1
    isplitl [HO]; · iexact HO
    iexact PR1
  iintro ⟨HO, PR1, St1⟩
  ihave St1 := (show pay m ρ c (some (true, 1)) 0 ⊢ ((((c : Thread nD τ).loc cc0_scratch2) ↦{fullShare} L1 m ρ c) : sProp 𝕄) from BI.Entails.refl _) $$ St1
  iapply (load_acc c (off4_eq c)) $$ Hacc; iintro Hacc
  iapply (wp_load 𝒱₀ (c : Thread nD τ) none Set.univ (m := st1M) (Finset.subset_univ _)) $$ St1; iintro St1
  rw [show st1M.view.readAt (Elt F) _ (L1 m ρ c) = L1 m ρ c from Memref.readAt_unit_zero (Elt F) cc0_scratch2 hz _ _]
  iapply (load_acc c (off4_eq c)) $$ Hacc; iintro Hacc
  iapply (store_acc c (off4_eq c) (add1 m ρ c)) $$ Hacc; iintro Hacc
  -- halving step 2
  ihave Hacc := (acc_half2 c) $$ Hacc
  icases Hacc with ⟨Snd, Hacc⟩
  ihave Snd := (Entails.of_eq (accR_eq c (p := k0_off5_inb c) (off5_eq c)).symm) $$ Snd
  iapply (send_step m ρ K c 2 (dev6_eq c) (src := accV (n := 64) (k0_off5 c) (k0_off5_inb c)) (dst := st2M) rfl rfl rfl (due3 c)
      (Entails.of_eq (accR_eq c (off5_eq c))) (land2 m ρ c fy)) $$ [Snd St2 HO TS2 TR2]
  · isplitr; · iexact HR
    isplitl [Snd]; · iexact Snd
    isplitl [St2]; · iapply (Entails.of_eq (by rw [show st2M.view.set = Finset.univ from View.set_whole cc0_scratch3]; rfl : (st2P (peer 2 c) fy : sProp 𝕄) = _)); iexact St2
    isplitl [HO]; · iexact HO
    isplitl [TS2]; · iexact TS2
    iexact TR2
  iintro ⟨CS, HO⟩
  iapply (wait_step m ρ K c false 2 (v := 0) (src := st2M) (dst := accV (n := 64) (k0_off5 c) (k0_off5_inb c)) rfl (by decide) (above_due3 c (by decide)) rfl) $$ [CS HO PS2]
  · isplitr; · iexact HR
    isplitr; · iexact Hlev
    isplitl [CS]; · iexact CS
    isplitl [HO]; · iexact HO
    iexact PS2
  iintro ⟨HO, PS2, Snt2⟩
  iapply (wait_step m ρ K c true 2 (v := 4) (src := accV (n := 64) (k0_off5 c) (k0_off5_inb c)) (dst := st2M) rfl (by decide) (above_due3 c (by decide)) rfl) $$ [CR2 HO PR2]
  · isplitr; · iexact HR
    isplitr; · iexact Hlev
    isplitl [CR2]; · iexact CR2
    isplitl [HO]; · iexact HO
    iexact PR2
  iintro ⟨HO, PR2, St2⟩
  ihave St2 := (show pay m ρ c (some (true, 2)) 0 ⊢ ((((c : Thread nD τ).loc cc0_scratch3) ↦{fullShare} L2 m ρ c) : sProp 𝕄) from BI.Entails.refl _) $$ St2
  iapply (load_acc c (off6_lo c)) $$ Hacc; iintro Hacc
  iapply (wp_load 𝒱₀ (c : Thread nD τ) none Set.univ (m := st2M) (Finset.subset_univ _)) $$ St2; iintro St2
  rw [show st2M.view.readAt (Elt F) _ (L2 m ρ c) = L2 m ρ c from Memref.readAt_unit_zero (Elt F) cc0_scratch3 hz _ _]
  iapply (load_acc c (off6_lo c)) $$ Hacc; iintro Hacc
  iapply (store_acc c (off6_lo c) (add2 m ρ c)) $$ Hacc; iintro Hacc
  -- the device's own rows of the result
  iapply (load_acc c (off6_lo c)) $$ Hacc; iintro Hacc
  iapply (load_out c (off6_lo c)) $$ Own; iintro Own
  iapply (store_out c (off6_lo c) (own_out m ρ c)) $$ Own; iintro Own
  -- doubling step 0
  ihave Own := (Entails.of_eq (outR_eq c (p := k0_off7_inb c) (off7_eq c)).symm) $$ Own
  iapply (send_step m ρ K c 3 (dev7_eq c) (src := outV (n := 64) (k0_off7 c) (k0_off7_inb c)) (dst := outV (n := 64) (k0_off7 c) (k0_off7_inb c)) rfl rfl rfl (due2 c)
      (Entails.of_eq (outR_eq c (off7_eq c))) (land3 m ρ c oy)) $$ [Own Out3 HO TS3 TR3]
  · isplitr; · iexact HR
    isplitl [Own]; · iexact Own
    isplitl [Out3]; · iapply (Entails.of_eq (outR_eq (peer 3 c) (p := k0_off7_inb c) (off7_eq c)).symm); iexact Out3
    isplitl [HO]; · iexact HO
    isplitl [TS3]; · iexact TS3
    iexact TR3
  iintro ⟨CS, HO⟩
  iapply (wait_step m ρ K c false 3 (v := 0) (src := outV (n := 64) (k0_off7 c) (k0_off7_inb c)) (dst := outV (n := 64) (k0_off7 c) (k0_off7_inb c)) rfl (by decide) (above_due2 c (by decide)) rfl) $$ [CS HO PS3]
  · isplitr; · iexact HR
    isplitr; · iexact Hlev
    isplitl [CS]; · iexact CS
    isplitl [HO]; · iexact HO
    iexact PS3
  iintro ⟨HO, PS3, Own⟩
  iapply (wait_step m ρ K c true 3 (v := 5) (src := outV (n := 64) (k0_off7 c) (k0_off7_inb c)) (dst := outV (n := 64) (k0_off7 c) (k0_off7_inb c)) rfl (by decide) (above_due2 c (by decide)) rfl) $$ [CR3 HO PR3]
  · isplitr; · iexact HR
    isplitr; · iexact Hlev
    isplitl [CR3]; · iexact CR3
    isplitl [HO]; · iexact HO
    iexact PR3
  iintro ⟨HO, PR3, Out3⟩
  ihave Own := (show iprop(pay m ρ c (some (false, 3)) 0 ∗ pay m ρ c (some (true, 3)) 0) ⊢ _ from out_grow3 c) $$ [Own Out3]
  · isplitl [Own] <;> iassumption
  -- doubling step 1
  ihave Own := (Entails.of_eq (outR_eq c (p := k0_off8_inb c) (off8_eq c)).symm) $$ Own
  iapply (send_step m ρ K c 4 (dev8_eq c) (src := outV (n := 128) (k0_off8 c) (k0_off8_inb c)) (dst := outV (n := 128) (k0_off8 c) (k0_off8_inb c)) rfl rfl rfl (due1 c)
      (Entails.of_eq (outR_eq c (off8_eq c))) (land4 m ρ c ox)) $$ [Own Out4 HO TS4 TR4]
  · isplitr; · iexact HR
    isplitl [Own]; · iexact Own
    isplitl [Out4]; · iapply (Entails.of_eq (outR_eq (peer 4 c) (p := k0_off8_inb c) (off8_eq c)).symm); iexact Out4
    isplitl [HO]; · iexact HO
    isplitl [TS4]; · iexact TS4
    iexact TR4
  iintro ⟨CS, HO⟩
  iapply (wait_step m ρ K c false 4 (v := 0) (src := outV (n := 128) (k0_off8 c) (k0_off8_inb c)) (dst := outV (n := 128) (k0_off8 c) (k0_off8_inb c)) rfl (by decide) (above_due1 c (by decide)) rfl) $$ [CS HO PS4]
  · isplitr; · iexact HR
    isplitr; · iexact Hlev
    isplitl [CS]; · iexact CS
    isplitl [HO]; · iexact HO
    iexact PS4
  iintro ⟨HO, PS4, Own⟩
  iapply (wait_step m ρ K c true 4 (v := 6) (src := outV (n := 128) (k0_off8 c) (k0_off8_inb c)) (dst := outV (n := 128) (k0_off8 c) (k0_off8_inb c)) rfl (by decide) (above_due1 c (by decide)) rfl) $$ [CR4 HO PR4]
  · isplitr; · iexact HR
    isplitr; · iexact Hlev
    isplitl [CR4]; · iexact CR4
    isplitl [HO]; · iexact HO
    iexact PR4
  iintro ⟨HO, PR4, Out4⟩
  ihave Own := (show iprop(pay m ρ c (some (false, 4)) 0 ∗ pay m ρ c (some (true, 4)) 0) ⊢ _ from out_grow4 c) $$ [Own Out4]
  · isplitl [Own] <;> iassumption
  -- doubling step 2
  ihave Own := (Entails.of_eq (outR_eq c (p := k0_off9_inb c) (off9_eq c)).symm) $$ Own
  iapply (send_step m ρ K c 5 (dev9_eq c) (src := outV (n := 256) (k0_off9 c) (k0_off9_inb c)) (dst := outV (n := 256) (k0_off9 c) (k0_off9_inb c)) rfl rfl rfl 0
      (Entails.of_eq (outR_eq c (off9_eq c))) (land5 m ρ c oz)) $$ [Own Out5 HO TS5 TR5]
  · isplitr; · iexact HR
    isplitl [Own]; · iexact Own
    isplitl [Out5]; · iapply (Entails.of_eq (outR_eq (peer 5 c) (p := k0_off9_inb c) (off9_eq c)).symm); iexact Out5
    isplitl [HO]; · iexact HO
    isplitl [TS5]; · iexact TS5
    iexact TR5
  iintro ⟨CS, HO⟩
  iapply (wait_step m ρ K c false 5 (v := 0) (src := outV (n := 256) (k0_off9 c) (k0_off9_inb c)) (dst := outV (n := 256) (k0_off9 c) (k0_off9_inb c)) rfl (by decide) (above_zero _) rfl) $$ [CS HO PS5]
  · isplitr; · iexact HR
    isplitr; · iexact Hlev
    isplitl [CS]; · iexact CS
    isplitl [HO]; · iexact HO
    iexact PS5
  iintro ⟨HO, PS5, Own⟩
  iapply (wait_step m ρ K c true 5 (v := 7) (src := outV (n := 256) (k0_off9 c) (k0_off9_inb c)) (dst := outV (n := 256) (k0_off9 c) (k0_off9_inb c)) rfl (by decide) (above_zero _) rfl) $$ [CR5 HO PR5]
  · isplitr; · iexact HR
    isplitr; · iexact Hlev
    isplitl [CR5]; · iexact CR5
    isplitl [HO]; · iexact HO
    iexact PR5
  iintro ⟨HO, PR5, Out5⟩
  ihave Own := (show iprop(pay m ρ c (some (false, 5)) 0 ∗ pay m ρ c (some (true, 5)) 0) ⊢ _ from out_grow5 c) $$ [Own Out5]
  · isplitl [Own] <;> iassumption
  -- everything is given back
  imod (close_all m ρ K c) $$ [PB PS0 PS1 PS2 PS3 PS4 PS5 PR0 PR1 PR2 PR3 PR4 PR5] with HZ
  · isplitr; · iexact HR
    simp only [bigSep_cells]
    isplitl [PB]; · iexact PB
    isplitl [PS0]; · iexact PS0
    isplitl [PS1]; · iexact PS1
    isplitl [PS2]; · iexact PS2
    isplitl [PS3]; · iexact PS3
    isplitl [PS4]; · iexact PS4
    isplitl [PS5]; · iexact PS5
    isplitl [PR0]; · iexact PR0
    isplitl [PR1]; · iexact PR1
    isplitl [PR2]; · iexact PR2
    isplitl [PR3]; · iexact PR3
    isplitl [PR4]; · iexact PR4
    iexact PR5
  rw [wp_ret]; imodintro
  iapply Hk
  unfold bodyPost Φ₁ scratch Dat.owesAt Pipeline.owesWithin
  rw [show (dats m ρ 0 c).owed t0_0.succ = 0 from rfl]
  isplitl [Hacc Snt0 Snt1 Snt2 St0 St1 St2 HZ]
  · isplitr [HZ]
    · isplitl [Hacc Snt0 Snt1 Snt2]
      · iapply (acc_whole c)
        isplitl [Snt0]; · iexists (T0 m ρ c); iapply (Entails.of_eq (show pay m ρ c (some (false, 0)) 0 = accR c (lo 0 c) 256 (T0 m ρ c) from rfl)); iexact Snt0
        isplitl [Snt1]; · iexists (T1 m ρ c); iapply (Entails.of_eq (show pay m ρ c (some (false, 1)) 0 = accR c (lo 1 c) 128 (T1 m ρ c) from rfl)); iexact Snt1
        isplitl [Snt2]; · iexists (T2 m ρ c); iapply (Entails.of_eq (show pay m ρ c (some (false, 2)) 0 = accR c (lo 2 c) 64 (T2 m ρ c) from rfl)); iexact Snt2
        iexists (T3 m ρ c); iexact Hacc
      isplitl [St0]; · iexists (L0 m ρ c); iapply (Entails.of_eq (show ((st0M.view.loc (c : Thread nD τ) ↦{fullShare} L0 m ρ c) : sProp 𝕄) = st0P c (L0 m ρ c) from rfl)); iexact St0
      isplitl [St1]; · iexists (L1 m ρ c); iapply (Entails.of_eq (show ((st1M.view.loc (c : Thread nD τ) ↦{fullShare} L1 m ρ c) : sProp 𝕄) = st1P c (L1 m ρ c) from rfl)); iexact St1
      iexists (L2 m ρ c); iapply (Entails.of_eq (show ((st2M.view.loc (c : Thread nD τ) ↦{fullShare} L2 m ρ c) : sProp 𝕄) = st2P c (L2 m ρ c) from rfl)); iexact St2
    · iexact HZ
  isplitl [HO]
  · unfold owing
    icases HO with ⟨%W', HO⟩
    iexists W'
    isplitr; · ipureintro; exact fun _ _ => Or.inl trivial
    iexact HO
  isplitl [I0]
  · iexists _; isplitr; · (ipureintro; rfl)
    iexact I0
  isplitl [I1]
  · iexists _; isplitr; · (ipureintro; rfl)
    iexact I1
  isplitl [I2]
  · iexists _; isplitr; · (ipureintro; rfl)
    iexact I2
  isplitl [I3]
  · iexists _; isplitr; · (ipureintro; rfl)
    iexact I3
  isplitl [I4]
  · iexists _; isplitr; · (ipureintro; rfl)
    iexact I4
  iexists _; isplitr; · (ipureintro; rfl)
  iexact Own

theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- The body is what the pipeline asks of it. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => bodyPost m ρ c)
  iintro H
  iapply (sound_body m ρ c fun _ => bodyPost m ρ c)
  isplitl; · iexact H
  iintro H; iexact H

end Cert.KernelIdeal.Cube

end
-- ==== Proof.KernelIdeal.Launch.lean ====
/-
The launch: the cells' tokens are dealt to the devices that use them, the semaphores become the cells' invariants, and
what the devices owe becomes the credit of those that wait.
-/
module

public import proofs.«01_k».proof.Proof.KernelIdeal.Start

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens at launch -/

/-- The kernel's own semaphores: the twelve of its transfers. -/
abbrev osem : Fin 12 → SemLoc sig := fun
  | 0 => .dma (sendS 0) | 1 => .dma (sendS 1) | 2 => .dma (sendS 2) | 3 => .dma (sendS 3) | 4 => .dma (sendS 4) | 5 => .dma (sendS 5)
  | 6 => .dma (recvS 0) | 7 => .dma (recvS 1) | 8 => .dma (recvS 2) | 9 => .dma (recvS 3) | 10 => .dma (recvS 4) | 11 => .dma (recvS 5)

theorem ownSemFacts : Pipeline.OwnSemFacts cfg0.spec osem := by decide

theorem share_eq (c : Dev nD) (w : Fin cfg0.W) : (dats m ρ 0 c).share w = fullShare := by unfold Dat.share; split <;> rfl

abbrev cellAt (ck : Dev nD × Cell) : GSem nD τ sig := cellOn ck.1 ck.2

theorem cellAt_inj : Function.Injective cellAt := fun _ _ h => Prod.ext (cellOn_inj h).1 (cellOn_inj h).2

def allCells : Finset (GSem nD τ sig) := Finset.univ.map ⟨cellAt, cellAt_inj⟩

/-- A token of a device's own cells: one of the three of its barrier, or that of a transfer cell. -/
abbrev Tok : Type := Fin 3 ⊕ Bool × Fin 6

abbrev tokAt (x : Dev nD × Tok) : GSem nD τ sig × ℕ × Fin 3 := match x.2 with
  | .inl d => (cellOn x.1 none, 0, d)
  | .inr p => (cellOn x.1 (some p), 0, 0)

theorem tokAt_inj : Function.Injective tokAt := by
  rintro ⟨c, d | p⟩ ⟨c', d' | p'⟩ h
  · exact Prod.ext (cellOn_inj (congrArg Prod.fst h)).1 (congrArg Sum.inl (congrArg (fun x => x.2.2) h))
  · exact absurd (cellOn_inj (k := none) (k' := some p') (congrArg Prod.fst h)).2 (by simp)
  · exact absurd (cellOn_inj (k := some p) (k' := none) (congrArg Prod.fst h)).2 (by simp)
  · have h' := cellOn_inj (k := some p) (k' := some p') (congrArg Prod.fst h)
    exact Prod.ext h'.1 (congrArg Sum.inr (Option.some.inj h'.2))

def allToks : Finset (GSem nD τ sig × ℕ × Fin 3) := Finset.univ.map ⟨tokAt, tokAt_inj⟩

/-- The launch's ghost state: the pipeline's and the protocol's. -/
def u₀ : UU :=
  (initOf (Pipeline.cells cfgs cellOf_inj) (Pipeline.launchToks cfgs cellOf_inj), initOf allCells allToks)

/-- The tokens of device `c`'s own cells, -/
def toks (c : Dev nD) : sProp 𝕄 :=
  iprop((bigSep Finset.univ fun d : Fin 3 => tok c none d) ∗ bigSep Finset.univ fun p : Bool × Fin 6 => tok c (some p) 0)

/-- where they stand at the start, -/
def stand (c : Dev nD) : sProp 𝕄 :=
  bigSep Finset.univ fun k : Cell => iprop(pos c k 0 ∗ reached ER (cellOn c k) 0)

/-- and all that the launch deals the device. -/
def G (c : Dev nD) : sProp 𝕄 :=
  iprop((bigSep Finset.univ fun k : Cell => roundState ER (sched m ρ) (cellOn c k) 0) ∗ stand c ∗ toks c)

/-- What the devices together make of it. -/
def G' (c : Dev nD) : sProp 𝕄 := iprop(∃ K, ghost m ρ K c)

/-- A conjunction over all cells, device by device. -/
theorem bigSep_allCells (Φ : GSem nD τ sig → sProp (MT nD τ sig Unit (Elt F) ℕ UU ℕ)) :
    bigSep allCells Φ = bigSep Finset.univ fun c : Dev nD => bigSep Finset.univ fun k : Cell => Φ (cellOn c k) := by
  unfold allCells; rw [bigSep_map, bigSep_univ_prod]; rfl

theorem fund_cube : BI.own (ER (initOf allCells allToks)) ⊢ (|==> bigSep Finset.univ (G m ρ) : sProp 𝕄) := by
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; exact bigSep_univ_sum _
  iintro HX
  imod (Rounds.fund ER (sched m ρ) allCells allToks) $$ HX with ⟨Hst, Hr, Hat, Htok⟩
  imodintro
  ihave Hst := (Entails.of_eq (bigSep_allCells fun g => roundState ER (sched m ρ) g 0)) $$ Hst
  ihave Hat := (Entails.of_eq (bigSep_allCells fun g => atPos ER g 0 ∅ 0)) $$ Hat
  ihave Hr := (Entails.of_eq (bigSep_allCells fun g => reached ER g 0)) $$ Hr
  ihave Htok := (Entails.of_eq hT) $$ Htok
  unfold G stand; simp only [bigSep_sep']
  isplitl [Hst]; · iexact Hst
  isplitl [Hat Hr]
  · isplitl [Hat] <;> iassumption
  iexact Htok

/-! ## The semaphores -/

theorem ownSems0_eq (c : Dev nD) : (Pipeline.ownSems0 (Ix := Unit) (Name := ℕ) (U := UU) (Lvl := ℕ) (Val := Elt F) (τ := τ) osem c : sProp 𝕄)
    = iprop(semVal (cellOn c (some (false, 0))) 0 ∗ semVal (cellOn c (some (false, 1))) 0 ∗ semVal (cellOn c (some (false, 2))) 0
      ∗ semVal (cellOn c (some (false, 3))) 0 ∗ semVal (cellOn c (some (false, 4))) 0 ∗ semVal (cellOn c (some (false, 5))) 0
      ∗ semVal (cellOn c (some (true, 0))) 0 ∗ semVal (cellOn c (some (true, 1))) 0 ∗ semVal (cellOn c (some (true, 2))) 0
      ∗ semVal (cellOn c (some (true, 3))) 0 ∗ semVal (cellOn c (some (true, 4))) 0 ∗ semVal (cellOn c (some (true, 5))) 0) := by
  rw [Pipeline.ownSems0_eq_of_list c osem [0, 1, 2, 3, 4, 5, 6, 7, 8, 9, 10, 11] (by decide) (by decide)]; rfl

theorem unscopedSems0_eq (c : Dev nD) : (unscopedSems0 c : sProp 𝕄) = semVal (cellOn c none) 0 := by
  unfold unscopedSems0; rw [bigSep_eq_bigSepL_of_eq [SemLoc.reg barS] (by decide) (by decide)]; rfl

/-- A device's counters: that of the launch's barrier and the kernel's own twelve. -/
theorem counters (c : Dev nD) : (bigSep Finset.univ fun k : Cell => (semVal (cellOn c k) 0 : sProp 𝕄))
    = iprop(unscopedSems0 c ∗ Pipeline.ownSems0 (Ix := Unit) (Name := ℕ) (U := UU) (Lvl := ℕ) (Val := Elt F) (τ := τ) osem c) := by
  rw [bigSep_cells, ownSems0_eq, unscopedSems0_eq]

/-- A device's counters at zero and the states of its cells make their invariants. -/
theorem invs_alloc (c : Dev nD) :
    iprop((bigSep Finset.univ fun k : Cell => semVal (cellOn c k) 0) ∗ bigSep Finset.univ fun k : Cell => roundState ER (sched m ρ) (cellOn c k) 0)
      ⊢ (|={Set.univ}=> bigSep Finset.univ fun k : Cell => iprop(∃ κ : ℕ, cellInv ER (sched m ρ) κ (cellOn c k)) : sProp 𝕄) := by
  rw [← bigSep_sep']
  exact (bigSep_mono fun k _ => (Rounds.body_intro ER (sched m ρ) (cellOn c k)).trans inv_alloc).trans (bigSep_fupd _ _)

/-- What one device contributes to the common records, and what it keeps. -/
def part (c : Dev nD) : sProp 𝕄 :=
  iprop((bigSep Finset.univ fun k : Cell => iprop(∃ κ : ℕ, cellInv ER (sched m ρ) κ (cellOn c k))) ∗ stand c ∗ toks c)

theorem part_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> part m ρ c := by
  unfold G part
  iintro ⟨Hos, Hus, Hst, Hat, Htok⟩
  ihave Hv := (Entails.of_eq (counters (F := F) c).symm) $$ [Hos Hus]
  · isplitl [Hus] <;> iassumption
  imod (invs_alloc m ρ c) $$ [Hv Hst] with Hinv
  · isplitl [Hv] <;> iassumption
  imodintro
  isplitl [Hinv]; · iexact Hinv
  isplitl [Hat] <;> iassumption

/-! ## Tokens to those who pay -/

/-- Partnership in step `s` as a rearrangement of the devices. -/
def swap (s : Fin 6) : Dev nD ≃ Dev nD := ⟨peer s, peer s, peer_peer s, peer_peer s⟩

theorem toks_deal : (bigSep Finset.univ fun c : Dev nD => (toks c : sProp 𝕄)) ⊢ bigSep Finset.univ fun c : Dev nD => payToks c := by
  have h (s : Fin 6) (k : Cell) (d : Fin 3) : (bigSep Finset.univ fun c : Dev nD => (tok c k d : sProp 𝕄)) = bigSep Finset.univ fun c : Dev nD => tok (peer s c) k d :=
    bigSep_univ_equiv (swap s) fun c : Dev nD => (tok c k d : sProp 𝕄)
  have hb : (bigSep Finset.univ fun c : Dev nD => bigSep Finset.univ fun d : Fin 3 => (tok c none d : sProp 𝕄))
      = bigSep Finset.univ fun c : Dev nD => iprop(tok (pz c) none 0 ∗ tok (px c) none 1 ∗ tok (py c) none 2) := by
    rw [bigSep_sep', bigSep_sep', bigSep_univ_comm, bigSep_univ_eq_bigSepL [0, 1, 2] (by decide) (by decide), bigSepL_cons_cons, bigSepL_cons_cons, bigSepL_singleton,
      h 0, h 1, h 2]
    rfl
  have ht : (bigSep Finset.univ fun c : Dev nD => bigSep Finset.univ fun p : Bool × Fin 6 => (tok c (some p) 0 : sProp 𝕄))
      = iprop((bigSep Finset.univ fun c : Dev nD => bigSep Finset.univ fun s : Fin 6 => tok c (some (false, s)) 0)
        ∗ bigSep Finset.univ fun c : Dev nD => bigSep Finset.univ fun s : Fin 6 => tok (peer s c) (some (true, s)) 0) := by
    rw [bigSep_univ_comm fun (c : Dev nD) (s : Fin 6) => (tok (peer s c) (some (true, s)) 0 : sProp 𝕄),
      ← bigSep_congr (s := Finset.univ) fun (s : Fin 6) _ => h s (some (true, s)) 0,
      ← bigSep_univ_comm fun (c : Dev nD) (s : Fin 6) => (tok c (some (true, s)) 0 : sProp 𝕄), ← bigSep_sep']
    exact bigSep_congr fun c _ => by
      rw [bigSep_univ_prod fun p : Bool × Fin 6 => (tok c (some p) 0 : sProp 𝕄), bigSep_univ_eq_bigSepL [false, true] (by decide) (by decide), bigSepL_cons_cons, bigSepL_singleton]
      rfl
  unfold toks payToks
  rw [bigSep_sep', hb, ht]
  exact Entails.of_eq (by simp only [bigSep_sep'])

/-- Something that may be read by all helps every device. -/
theorem all_with {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => part m ρ c) ⊢ (bigSep Finset.univ (G' m ρ) : sProp 𝕄) := by
  have hs : (bigSep Finset.univ fun c : Dev nD => (stand c : sProp 𝕄))
      = iprop((bigSep Finset.univ fun c : Dev nD => bigSep Finset.univ fun k : Cell => pos c k 0)
        ∗ bigSep Finset.univ fun ck : Dev nD × Cell => reached ER (cellOn ck.1 ck.2) 0) := by
    rw [bigSep_univ_prod fun ck : Dev nD × Cell => (reached ER (cellOn ck.1 ck.2) 0 : sProp 𝕄), ← bigSep_sep']
    exact bigSep_congr fun c _ => by unfold stand; exact bigSep_sep' _ _ _
  unfold part
  rw [bigSep_sep', bigSep_sep', hs, ← bigSep_univ_prod fun ck : Dev nD × Cell => iprop(∃ κ : ℕ, cellInv ER (sched m ρ) κ (cellOn ck.1 ck.2))]
  iintro ⟨HI, ⟨Hat, #HR⟩, Htok⟩
  ihave HK := (BI.bigSep_exists_pi Finset.univ (fun (ck : Dev nD × Cell) (κ : ℕ) => (cellInv ER (sched m ρ) κ (cellOn ck.1 ck.2) : sProp 𝕄))) $$ HI
  icases HK with ⟨%K, #HI⟩
  ihave Htok := (toks_deal (F := F)) $$ Htok
  iapply (all_with (R := records m ρ K) (Φ := linear) fun c _ => show iprop(records m ρ K ∗ linear c) ⊢ G' m ρ c from by
    unfold G' ghost; iintro H; iexists K; iexact H)
  isplitr
  · unfold records; isplitl; · iexact HI
    iexact HR
  · unfold linear; rw [bigSep_sep']
    isplitl [Hat] <;> iassumption

/-- All devices' semaphores and what they were dealt become what each one starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => part_alloc m ρ c).trans (bigSep_fupd _ _)).trans (BI.fupd_mono (regroup m ρ))

/-! ## The credit -/

/-- What all owe the cells `k` of their partners in step `s`, device `c` has as credit on its own. -/
theorem credit_of (s : Fin 6) (k : Cell) (n : ℕ) (c : Dev nD) :
    (Pipeline.launchCred (fun d => tallyAt (cellOn (peer s d) k) () n) c : sProp 𝕄) ⊢ cred (tallyAt (cellOn c k) () n) :=
  Pipeline.launchCred_tallyAt (csem k) (peer s) (peer s) (peer_peer s) (peer_peer s) () n c

theorem credits_intro (c : Dev nD) : (Pipeline.launchCred O₀ c : sProp 𝕄) ⊢ credits c := by
  have h : O₀ = fun d => 0 + xfer d 5 + xfer d 4 + xfer d 3 + xfer d 2 + xfer d 1 + xfer d 0
      + tallyAt (cellOn (peer 0 d) none) () 1 + tallyAt (cellOn (peer 2 d) none) () 1 + tallyAt (cellOn (peer 1 d) none) () 1 := rfl
  rw [h]
  unfold xfer credits
  rw [Pipeline.launchCred_add, Pipeline.launchCred_add, Pipeline.launchCred_add, Pipeline.launchCred_add, Pipeline.launchCred_add,
    Pipeline.launchCred_add, Pipeline.launchCred_add, Pipeline.launchCred_add, Pipeline.launchCred_add, bigSep_steps,
    show (tallyAt (cellOn c none) () 3 : CellTallies nD τ sig Unit) = tallyAt (cellOn c none) () 1 + tallyAt (cellOn c none) () 1 + tallyAt (cellOn c none) () 1 from by
      rw [tallyAt_add, tallyAt_add]]
  iintro ⟨⟨⟨⟨⟨⟨⟨⟨⟨-, H5⟩, H4⟩, H3⟩, H2⟩, H1⟩, H0⟩, BZ⟩, BY⟩, BX⟩
  isplitl [BZ BY BX]
  · ihave BZ := (credit_of 0 none 1 c) $$ BZ
    ihave BY := (credit_of 2 none 1 c) $$ BY
    ihave BX := (credit_of 1 none 1 c) $$ BX
    iapply (cred_add _ _).2
    isplitl [BZ BY]
    · iapply (cred_add _ _).2
      isplitl [BZ] <;> iassumption
    iexact BX
  isplitl [H0]; · iapply (credit_of 0 (some (true, 0)) _ c); iexact H0
  isplitl [H1]; · iapply (credit_of 1 (some (true, 1)) _ c); iexact H1
  isplitl [H2]; · iapply (credit_of 2 (some (true, 2)) _ c); iexact H2
  isplitl [H3]; · iapply (credit_of 3 (some (true, 3)) _ c); iexact H3
  isplitl [H4]; · iapply (credit_of 4 (some (true, 4)) _ c); iexact H4
  iapply (credit_of 5 (some (true, 5)) _ c); iexact H5

/-! ## Start and end -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hcr := (credits_intro (F := F) c) $$ Hcr
  imodintro
  unfold start G'
  isplitl
  · isplitl [HG]; · iexact HG
    isplitl [Hcr] <;> iassumption
  · iempintro

theorem scratch_eq (c : Dev nD) : (Pipeline.scopedRest cfg0.spec c : sProp 𝕄) = scratch c := scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  rw [counters]
  iintro ⟨Hr, Hb, Ho⟩
  isplitl [Hb]; · iexact Hb
  isplitl [Ho] <;> iassumption

/-- The pipeline's own waits are below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait c _ (b := 0) (by fin_cases w <;> fin_cases s <;> decide +kernel) (by
      rcases t with ⟨_ | _, ht⟩
      · exact above_O₀ c
      · exact above_zero 0)

end Cert.KernelIdeal.Cube

end
-- ==== Proof.KernelIdeal.Run.lean ====
/-
The run of the whole program: every execution ends with the sum of all devices' partial results in every device's
result array, its arguments unchanged and its counters at zero.
-/
module

public import proofs.«01_k».proof.Proof.KernelIdeal.Body
public import proofs.«01_k».proof.Proof.KernelIdeal.Launch
public import Idealize.ShloMosaic.Lib.Pipeline.CollectiveSegs

@[expose] public section

noncomputable section

namespace Cert.KernelIdeal.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the arrays of device `c` hold at the end. -/
def finalA (c : Dev nD) (w : Fin cfg0.W) : Buf (Elt F) ((cfg0.win w).arr.view.loc (c : Thread nD τ)) := (dats m ρ 0 c).arrAt w cfg0.N

/-- The end of a run: every array holds that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with counters at zero, every weakly fair execution ends, with the arrays at those contents and
    the counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cube m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held, -/
theorem final_arg (c : Dev nD) (w : Fin 6) (hw : w ≠ 5) : finalA m ρ c w = (s₀ m ρ).mem ((cfg0.win w).arr.view.loc (c : Thread nD τ)) := by
  fin_cases w
  · exact (dats m ρ 0 c).arrAt_in (0 : Fin 6) rfl _
  · exact (dats m ρ 0 c).arrAt_in (1 : Fin 6) rfl _
  · exact (dats m ρ 0 c).arrAt_in (2 : Fin 6) rfl _
  · exact (dats m ρ 0 c).arrAt_in (3 : Fin 6) rfl _
  · exact (dats m ρ 0 c).arrAt_in (4 : Fin 6) rfl _
  · exact absurd rfl hw

end Cert.KernelIdeal.Cube

end
-- ==== Proof.KernelIdeal.Final.lean ====
/-
What a run of the kernel leaves in its result array: on every device the array `Out`.
-/
module

public import proofs.«01_k».proof.Proof.KernelIdeal.Run

@[expose] public section

noncomputable section

namespace Cert.KernelIdeal.Cube

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The one grid point writes the staged result back, and its block is the whole array. -/
theorem final_out (c : Dev nD) : finalA m ρ c (5 : Fin 6) = Out m ρ := by
  have h : (win0_5.blk t0_0).view.read (Elt F) (finalA m ρ c (5 : Fin 6)) = Out m ρ := by
    unfold finalA
    rw [show cfg0.N = ((0 : Fin 1) : Fin cfg0.N).val + 1 from rfl, (dats m ρ 0 c).arrAt_succ (5 : Fin 6) (0 : Fin 1),
      if_pos (flush0_5 (0 : Fin 1))]
    exact View.read_write_univ _ _
  have hz : (fun a => win0_5.index t0_0 a * main_v1.ty.shape.size a) = fun _ => 0 :=
    funext fun a => by fin_cases a <;> decide
  exact (Memref.read_access_unit_zero (Elt F) main_v1 hz (fun a => by fin_cases a <;> decide) _).symm.trans h

/-- The staged inputs are the argument arrays. -/
theorem in0_eq (c : Dev nD) : in0 m ρ c = m ((c : Thread nD τ).loc main_arg0) :=
  Memref.read_access_unit_zero (Elt F) main_arg0 (funext fun a => by fin_cases a <;> decide) (fun a => by fin_cases a <;> decide) _
theorem in1_eq (c : Dev nD) : in1 m ρ c = m ((c : Thread nD τ).loc main_arg1) :=
  Memref.read_access_unit_zero (Elt F) main_arg1 (funext fun a => by fin_cases a <;> decide) (fun a => by fin_cases a <;> decide) _
theorem in2_eq (c : Dev nD) : in2 m ρ c = m ((c : Thread nD τ).loc main_arg2) :=
  Memref.read_access_unit_zero (Elt F) main_arg2 (funext fun a => by fin_cases a <;> decide) (fun a => by fin_cases a <;> decide) _
theorem in3_eq (c : Dev nD) : in3 m ρ c = m ((c : Thread nD τ).loc main_arg3) :=
  Memref.read_access_unit_zero (Elt F) main_arg3 (funext fun a => by fin_cases a <;> decide) (fun a => by fin_cases a <;> decide) _
theorem in4_eq (c : Dev nD) : in4 m ρ c = m ((c : Thread nD τ).loc main_arg4) :=
  Memref.read_access_unit_zero (Elt F) main_arg4 (funext fun a => by fin_cases a <;> decide) (fun a => by fin_cases a <;> decide) _

/-- Every weakly fair run ends with the array `Out` in every device's result, the arguments unchanged and the
    counters at zero. -/
theorem run_final : θ_run defs (onTc (τ := τ) (main (F := F))) ⟨m, fun _ => 0, ρ⟩ fun r =>
    (∀ c : Dev nD, r.2.mem ((c.tc : Thread nD τ).loc main_v1) = Out m ρ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (fun _ h => ⟨fun c => ⟨(h.1 c 5).trans (final_out m ρ c),
      (h.1 c 0).trans (final_arg m ρ c 0 (by decide)), (h.1 c 1).trans (final_arg m ρ c 1 (by decide)),
      (h.1 c 2).trans (final_arg m ρ c 2 (by decide)), (h.1 c 3).trans (final_arg m ρ c 3 (by decide)),
      (h.1 c 4).trans (final_arg m ρ c 4 (by decide))⟩, h.2⟩) (run_main m ρ)

end Cert.KernelIdeal.Cube

end
-- ==== Proof.Spec.lean ====
/-
The layer both programs compute, written over the extended reals: the softmax of the router's scores, the product
with the shared weights, and the product with the weights of the one expert a token is sent to. Then the two
regroupings the kernel makes of it: eight eighths of the shared product, and the thirty-two experts as eight
devices of four.
-/
module

public import Idealize.ShloMosaic.PureOps.Ideal

@[expose] public section

noncomputable section

namespace Cert.Moe

open Idealize.ShloMosaic

/-- The router's score of expert `e` for token `t`. -/
def score (X : Fin 512 → Fin 256 → EReal) (R : Fin 256 → Fin 32 → EReal) (t : Fin 512) (e : Fin 32) : EReal :=
  ∑ d, X t d * R d e

/-- The largest score of token `t`. -/
def top (X : Fin 512 → Fin 256 → EReal) (R : Fin 256 → Fin 32 → EReal) (t : Fin 512) : EReal :=
  Finset.univ.fold max (Ideal.ofBits .f32 0xFF800000#32) fun e => score X R t e

/-- The softmax of the scores of token `t`, at expert `e`. -/
def prob (X : Fin 512 → Fin 256 → EReal) (R : Fin 256 → Fin 32 → EReal) (t : Fin 512) (e : Fin 32) : EReal :=
  Ideal.div (Ideal.exp (score X R t e - top X R t)) (∑ e', Ideal.exp (score X R t e' - top X R t))

/-- The contribution of expert `e` to the result for token `t`, were it the one chosen. -/
def routed (X : Fin 512 → Fin 256 → EReal) (R : Fin 256 → Fin 32 → EReal) (W : Fin 32 → Fin 256 → Fin 512 → EReal)
    (e : Fin 32) (t : Fin 512) (h : Fin 512) : EReal :=
  ∑ d, X t d * prob X R t e * W e d h

/-- The layer: the shared product and the contribution of the expert whose number the token's word is. A word that
    is no expert's number contributes nothing. -/
def layer (X : Fin 512 → Fin 256 → EReal) (R : Fin 256 → Fin 32 → EReal) (I : Fin 512 → BitVec 32)
    (W : Fin 32 → Fin 256 → Fin 512 → EReal) (S : Fin 256 → Fin 512 → EReal) (t h : Fin 512) : EReal :=
  (∑ d, X t d * S d h) + ∑ e : Fin 32, if BitVec.ofNat 32 e = I t then routed X R W e t h else 0

/-- The f32 word of 0.125 is an eighth. -/
theorem ofBits_eighth : Ideal.ofBits .f32 0x3E000000#32 = ((1 / 8 : ℝ) : EReal) := by
  have hs : BitVec.extractLsb' 31 1 (0x3E000000#32) ≠ 1#1 := by decide
  have he : (0x3E000000#32).toNat >>> 23 % 256 = 124 := by decide
  simp only [Ideal.ofBits]
  unfold Ideal.ieee
  simp [hs, he, -EReal.coe_mul]
  norm_num

/-- Eight eighths make the whole, at every extended real. -/
theorem eight_eighths (y : EReal) : ∑ _c : Fin 8, y * ((1 / 8 : ℝ) : EReal) = y := by
  rw [Finset.sum_const, Finset.card_univ, Fintype.card_fin]
  induction y with
  | bot => rw [EReal.bot_mul_coe_of_pos (by norm_num)]; rfl
  | top => rw [EReal.top_mul_coe_of_pos (by norm_num)]; rfl
  | coe r => rw [← EReal.coe_mul, ← EReal.coe_nsmul]; congr 1; simp; ring

/-- The shared product is the sum of its eighths. -/
theorem shared_eighths {n : ℕ} (x s : Fin n → EReal) :
    ∑ _c : Fin 8, ∑ d, x d * ((1 / 8 : ℝ) : EReal) * s d = ∑ d, x d * s d := by
  rw [Finset.sum_comm]
  refine Finset.sum_congr rfl fun d _ => ?_
  rw [← eight_eighths (x d * s d)]
  exact Finset.sum_congr rfl fun c _ => by rw [mul_right_comm]

/-- The number of the expert that device `c` holds in plane `k` of its weights. -/
def expert (c : Fin 8) (k : Fin 4) : Fin 32 := ⟨4 * c + k, by omega⟩

/-- Every expert is in one plane of one device. -/
theorem sum_experts (g : Fin 32 → EReal) : ∑ c : Fin 8, ∑ k : Fin 4, g (expert c k) = ∑ e, g e := by
  rw [← Fintype.sum_prod_type']
  refine Fintype.sum_equiv (finProdFinEquiv (m := 8) (n := 4)) _ _ fun p => congrArg g (Fin.ext ?_)
  simp only [expert, finProdFinEquiv_apply_val]
  omega

/-- Of a sum over the experts in which only the one with number `w` counts, that one's term is left. -/
theorem sum_hit {e : Fin 32} {w : BitVec 32} (h : BitVec.ofNat 32 e = w) (g : Fin 32 → EReal) :
    (∑ e' : Fin 32, if BitVec.ofNat 32 e' = w then g e' else 0) = g e := by
  rw [Finset.sum_eq_single e, if_pos h]
  · intro b _ hb
    refine if_neg fun hw => hb (Fin.ext ?_)
    have := congrArg BitVec.toNat (hw.trans h.symm)
    simp only [BitVec.toNat_ofNat] at this
    omega
  · exact fun hn => absurd (Finset.mem_univ e) hn

/-- Where no expert has the number `w`, the sum is zero. -/
theorem sum_miss {w : BitVec 32} (h : ∀ e : Fin 32, BitVec.ofNat 32 e ≠ w) (g : Fin 32 → EReal) :
    (∑ e' : Fin 32, if BitVec.ofNat 32 e' = w then g e' else 0) = 0 :=
  Finset.sum_eq_zero fun e _ => if_neg (h e)

end Cert.Moe

end
-- ==== Proof.KernelIdeal.Partial.lean ====
/-
The partial result of one device, at one place of the array: an eighth of the shared product, and the contribution
of the chosen expert if it is one of the device's four.
-/
module

public import proofs.«01_k».proof.Proof.KernelIdeal.Final
public import proofs.«01_k».proof.Proof.Spec
public import Idealize.ShloMosaic.Lib.Pointwise

@[expose] public section

set_option maxRecDepth 16384

noncomputable section

namespace Cert.KernelIdeal.Cube

open Cert.KernelIdeal Cert.KernelIdeal.Gen

open Idealize.ShloMosaic
open Idealize.ShloMosaic.TcCoe

/-- The arrays of one device, as functions of their coordinates. -/
abbrev tokens (X : Vec Ideal S512x256 .f32) (t : Fin 512) (d : Fin 256) : EReal := X (ix2 t d)
abbrev router (R : Vec Ideal S256x32 .f32) (d : Fin 256) (e : Fin 32) : EReal := R (ix2 d e)
abbrev chosen (I : Vec Ideal S512x1 .i32) (t : Fin 512) : BitVec 32 := I (ix2 t 0)
abbrev common (S : Vec Ideal S256x512 .f32) (d : Fin 256) (h : Fin 512) : EReal := S (ix2 d h)

/-- Choosing by a comparison of words is choosing by their equality. -/
theorem select_eq {x y : BitVec 32} (a : EReal) :
    Scalar.select (IntOp.cmpi .eq x y) a (0 : EReal) = if x = y then a else 0 := by
  unfold Scalar.select IntOp.cmpi
  by_cases h : x = y
  · simp [h]
  · rw [if_neg h]
    simp only [beq_eq_false_iff_ne.mpr h, BitVec.ofBool_false]
    exact if_neg (by decide)

/-- The probability of the chosen expert: the sum over the experts of the probability where the number agrees. -/
theorem pay3_apply (X : Vec Ideal S512x256 .f32) (I : Vec Ideal S512x1 .i32) (R : Vec Ideal S256x32 .f32) (t : Fin 512) :
    k0_pay3 X I R (ix2 (n1 := 1) t 0) = ∑ e : Fin 32, if BitVec.ofNat 32 e = chosen I t then Moe.prob (tokens X) (router R) t e else 0 := by
  pointwise [k0_pay3, k0_pay1, k0_pay2]
  exact Finset.sum_congr rfl fun e _ => select_eq _

/-- The first part of the partial result: the eighth of the shared product and the device's first expert. -/
theorem pay4_apply (w : BitVec 32) (X : Vec Ideal S512x256 .f32) (I : Vec Ideal S512x1 .i32) (R : Vec Ideal S256x32 .f32)
    (S : Vec Ideal S256x512 .f32) (W : Vec Ideal S1x256x512 .f32) (t h : Fin 512) :
    k0_pay4 w X I R S W (ix2 t h)
      = (∑ d, tokens X t d * Ideal.ofBits .f32 0x3E000000#32 * common S d h)
        + ∑ d, Scalar.select (IntOp.cmpi .eq (chosen I t) (Scalar.addi (Scalar.muli w 4#32) 0#32))
            (tokens X t d * k0_pay3 X I R (ix2 (n1 := 1) t 0) * W (ix3 (n0 := 1) 0 d h)) (0 : EReal) := by
  pointwise [k0_pay4, k0_pay1, k0_pay2]

/-- The rest of it: the other three experts, added in turn. -/
theorem pay6_apply (w : BitVec 32) (X : Vec Ideal S512x256 .f32) (I : Vec Ideal S512x1 .i32) (q : FVec Ideal S512x1 .f32)
    (A : FVec Ideal S512x512 .f32) (W₁ W₂ W₃ : Vec Ideal S1x256x512 .f32) (t h : Fin 512) :
    k0_pay6 (k0_pay5 w (k0_pay1 X) (k0_pay2 I) q A W₁ W₂ W₃) (ix2 t h)
      = A (ix2 t h)
        + (∑ d, Scalar.select (IntOp.cmpi .eq (chosen I t) (Scalar.addi (Scalar.muli w 4#32) 1#32))
            (tokens X t d * q (ix2 (n1 := 1) t 0) * W₁ (ix3 (n0 := 1) 0 d h)) (0 : EReal))
        + (∑ d, Scalar.select (IntOp.cmpi .eq (chosen I t) (Scalar.addi (Scalar.muli w 4#32) 2#32))
            (tokens X t d * q (ix2 (n1 := 1) t 0) * W₂ (ix3 (n0 := 1) 0 d h)) (0 : EReal))
        + (∑ d, Scalar.select (IntOp.cmpi .eq (chosen I t) (Scalar.addi (Scalar.muli w 4#32) 3#32))
            (tokens X t d * q (ix2 (n1 := 1) t 0) * W₃ (ix3 (n0 := 1) 0 d h)) (0 : EReal)) := by
  pointwise [k0_pay6, k0_pay5, k0_pay1, k0_pay2]

/-- The number the kernel compares with, from its device's number and a plane's, is that expert's number. -/
theorem word_eq (c : Dev nD) (k : Fin 4) :
    Scalar.addi (Scalar.muli (word c) 4#32) (BitVec.ofNat 32 k) = BitVec.ofNat 32 (Moe.expert c k) := by
  revert c k; decide

variable (m : (ℓ : Loc nD τ sig) → Buf (Elt Ideal) ℓ) (ρ : Dev nD → PrngReg)

/-- A plane of the staged expert weights, read where it lies. -/
theorem plane_apply (c : Dev nD) (k : Fin 4) (hk : ∀ a, (![(k : ℕ), 0, 0] : Fin 3 → ℕ) a + S1x256x512.size a ≤ S4x256x512.size a)
    (d : Fin 256) (h : Fin 512) :
    plane m ρ c ![(k : ℕ), 0, 0] hk (ix3 (n0 := 1) 0 d h) = in3 m ρ c (ix3 k d h) := by
  unfold plane
  rw [View.readAt_eq_ld]
  pointwise
  rfl

/-- What the plane `k` of a device's weights adds: the contribution of its expert if that one is chosen. -/
theorem pick_apply (c : Dev nD) (k : Fin 4) {w : BitVec 32} (hw : w = BitVec.ofNat 32 (Moe.expert c k)) (X : Vec Ideal S512x256 .f32)
    (I : Vec Ideal S512x1 .i32) (R : Vec Ideal S256x32 .f32) (W : Fin 32 → Fin 256 → Fin 512 → EReal) {p : Fin 256 → EReal} (t h : Fin 512)
    (hp : ∀ d, p d = W (Moe.expert c k) d h) :
    (∑ d, Scalar.select (IntOp.cmpi .eq (chosen I t) w) (tokens X t d * k0_pay3 X I R (ix2 (n1 := 1) t 0) * p d) (0 : EReal))
      = if BitVec.ofNat 32 (Moe.expert c k) = chosen I t then Moe.routed (tokens X) (router R) W (Moe.expert c k) t h else 0 := by
  subst hw
  simp only [select_eq, eq_comm (a := chosen I t)]
  split
  · next he =>
    unfold Moe.routed
    rw [pay3_apply, Moe.sum_hit he]
    exact Finset.sum_congr rfl fun d _ => by rw [hp]
  · exact Finset.sum_const_zero

/-- The partial result at an index: an eighth of the shared product, and the chosen expert's contribution if it is
    one of the device's four. `W` are the weights of all experts, of which the device holds its four. -/
theorem T0_apply (c : Dev nD) (W : Fin 32 → Fin 256 → Fin 512 → EReal)
    (hW : ∀ (k : Fin 4) (d : Fin 256) (h : Fin 512), in3 m ρ c (ix3 k d h) = W (Moe.expert c k) d h) (t h : Fin 512) :
    T0 m ρ c (ix2 t h) = (∑ d, tokens (in0 m ρ c) t d * ((1 / 8 : ℝ) : EReal) * common (in4 m ρ c) d h)
      + ∑ k : Fin 4, if BitVec.ofNat 32 (Moe.expert c k) = chosen (in2 m ρ c) t
          then Moe.routed (tokens (in0 m ρ c)) (router (in1 m ρ c)) W (Moe.expert c k) t h else 0 := by
  have key (k : Fin 4) (w : BitVec 32) (hw : w = BitVec.ofNat 32 (Moe.expert c k)) (hk) :=
    pick_apply c k hw (in0 m ρ c) (in2 m ρ c) (in1 m ρ c) W (p := fun d => plane m ρ c ![(k : ℕ), 0, 0] hk (ix3 (n0 := 1) 0 d h)) t h
      fun d => (plane_apply m ρ c k hk d h).trans (hW k d h)
  rw [Fin.sum_univ_four, ← key 0 _ (word_eq c 0) inb_S4x256x512_S1x256x512_0_0_0, ← key 1 _ (word_eq c 1) inb_S4x256x512_S1x256x512_1_0_0,
    ← key 2 _ (word_eq c 2) inb_S4x256x512_S1x256x512_2_0_0, ← key 3 _ (word_eq c 3) inb_S4x256x512_S1x256x512_3_0_0, ← Moe.ofBits_eighth]
  unfold T0
  rw [pay6_apply, pay4_apply]
  simp only [add_assoc]
  rfl

end Cert.KernelIdeal.Cube

end
-- ==== Proof.KernelIdeal.Total.lean ====
/-
The array every device ends with is the layer: the three halving steps add up the partial results of all eight
devices, and those add up to the shared product and the chosen expert's contribution.
-/
module

public import proofs.«01_k».proof.Proof.KernelIdeal.Partial

@[expose] public section

noncomputable section

namespace Cert.KernelIdeal.Cube

open Cert.KernelIdeal Cert.KernelIdeal.Gen

open Idealize.ShloMosaic
open Idealize.ShloMosaic.TcCoe

variable (m : (ℓ : Loc nD τ sig) → Buf (Elt Ideal) ℓ) (ρ : Dev nD → PrngReg)

/-- The devices a device's sum has met after the three steps, in the order in which it adds them. -/
def met (c : Dev nD) (j : Fin 8) : Dev nD :=
  ![c, peer 0 c, peer 1 c, peer 0 (peer 1 c), peer 2 c, peer 0 (peer 2 c), peer 1 (peer 2 c), peer 0 (peer 1 (peer 2 c))] j

/-- They are all eight, each once. -/
theorem met_bijective (c : Dev nD) : Function.Bijective (met c) :=
  (Fintype.bijective_iff_injective_and_card _).mpr ⟨by revert c; decide, rfl⟩

/-- Whichever device does the adding, its sum is that of all devices' partial results. -/
theorem T3_apply (c : Dev nD) (i : S512x512.Idx) : T3 m ρ c i = ∑ c' : Dev nD, T0 m ρ c' i := by
  rw [← (met_bijective c).sum_comp fun c' => T0 m ρ c' i]
  rw [show (∑ j : Fin 8, T0 m ρ (met c j) i) = _ from Fin.sum_univ_eight _]
  have add_apply (x y : FVec Ideal S512x512 .f32) : addf x y i = (x i : EReal) + y i := rfl
  simp only [T3, T2, T1, add_apply, met, Matrix.cons_val]
  ac_rfl

/-- The final array is the layer of the arrays the devices hold: the tokens, the router, the choices and the shared
    weights, the same on all, and of the experts' weights each device its four. -/
theorem Out_apply (X : Vec Ideal S512x256 .f32) (R : Vec Ideal S256x32 .f32) (I : Vec Ideal S512x1 .i32)
    (W : Fin 32 → Fin 256 → Fin 512 → EReal) (S : Vec Ideal S256x512 .f32)
    (h0 : ∀ c, in0 m ρ c = X) (h1 : ∀ c, in1 m ρ c = R) (h2 : ∀ c, in2 m ρ c = I)
    (h3 : ∀ c (k : Fin 4) (d : Fin 256) (h : Fin 512), in3 m ρ c (ix3 k d h) = W (Moe.expert c k) d h)
    (h4 : ∀ c, in4 m ρ c = S) (t h : Fin 512) :
    Out m ρ (ix2 t h) = Moe.layer (tokens X) (router R) (chosen I) W (common S) t h := by
  unfold Out
  rw [T3_apply]
  simp only [T0_apply m ρ _ W (h3 _), h0, h1, h2, h4]
  rw [Finset.sum_add_distrib]
  exact congrArg₂ (· + ·) (Moe.shared_eighths _ _)
    (Moe.sum_experts fun e => if BitVec.ofNat 32 e = chosen I t then Moe.routed (tokens X) (router R) W e t h else 0)

end Cert.KernelIdeal.Cube

end
-- ==== Proof.Reference.Gather.lean ====
/-
What the reference's two indexed reads give: the probability at a token's own row and chosen column, and the chosen
expert's weights.
-/
module

public import proofs.«01_k».proof.Proof.Gen.ReferenceIdeal
public import Idealize.ShloMosaic.Lib.Pointwise

@[expose] public section

noncomputable section

namespace Cert.ReferenceIdeal.Layer

open Cert.ReferenceIdeal Cert.ReferenceIdeal.Gen

open Idealize.ShloMosaic

/-- A small number's word, read signed, is the number. -/
theorem toInt_small {w : BitVec 32} {n : ℕ} (h : w = BitVec.ofNat 32 n) (hn : n < 512) : w.toInt.toNat = n := by
  subst h
  rw [BitVec.toInt_eq_toNat_of_lt (by simp only [BitVec.toNat_ofNat]; omega), BitVec.toNat_ofNat]
  omega

/-- An array of 512 rows of 32, read at pairs: where the pair of `t` names row `r` and column `e`, that entry. -/
theorem gather_pair {α : Type} (x : S512x32.Idx → α) (p : IVec S512x2 32) (t r : Fin 512) (e : Fin 32)
    (h0 : p (ix2 (n1 := 2) t 0) = BitVec.ofNat 32 r) (h1 : p (ix2 (n1 := 2) t 1) = BitVec.ofNat 32 e) :
    Host.gather gather_S512x32_S512x2_S512_n_01_n_n_01_1_11 x p (ix1 t) = x (ix2 r e) := by
  have hi (k : Fin 2) : gather_S512x32_S512x2_S512_n_01_n_n_01_1_11.siIdx (ix1 t) k = ix2 (n1 := 2) t k := by
    funext b; fin_cases b <;> fin_cases k <;> rfl
  have s0 : gather_S512x32_S512x2_S512_n_01_n_n_01_1_11.start (ix1 t) p 0 = r := by
    unfold GatherDims.start
    rw [dif_pos (by decide)]
    refine (congrArg (fun j => min (p j).toInt.toNat 511) (hi 0)).trans ?_
    show min (p (ix2 (n1 := 2) t 0)).toInt.toNat 511 = r
    rw [toInt_small h0 r.isLt]; omega
  have s1 : gather_S512x32_S512x2_S512_n_01_n_n_01_1_11.start (ix1 t) p 1 = e := by
    unfold GatherDims.start
    rw [dif_pos (by decide)]
    refine (congrArg (fun j => min (p j).toInt.toNat 31) (hi 1)).trans ?_
    show min (p (ix2 (n1 := 2) t 1)).toInt.toNat 31 = e
    rw [toInt_small h1 (by omega)]; omega
  refine congrArg x (funext fun a => Fin.ext ?_)
  show gather_S512x32_S512x2_S512_n_01_n_n_01_1_11.start (ix1 t) p a + _ + _ = _
  rw [GatherDims.batchCoord_eq_zero _ _ _ (by revert a; decide), GatherDims.offCoord_eq_zero _ _ _ (by revert a; decide)]
  fin_cases a
  · exact s0
  · exact s1

/-- The experts' weights, read at the tokens' choices: where token `t` chose `e`, that expert's matrix. -/
theorem gather_expert {α : Type} (x : S32x256x512.Idx → α) (p : IVec S512x1 32) (t : Fin 512) (e : Fin 32)
    (h0 : p (ix2 (n1 := 1) t 0) = BitVec.ofNat 32 e) (d : Fin 256) (h : Fin 512) :
    Host.gather gather_S32x256x512_S512x1_S512x256x512_12_0_n_n_0_1_1256512 x p (ix3 t d h) = x (ix3 e d h) := by
  have hi (k : Fin 1) : gather_S32x256x512_S512x1_S512x256x512_12_0_n_n_0_1_1256512.siIdx (ix3 t d h) k = ix2 (n1 := 1) t 0 := by
    funext b; fin_cases b <;> fin_cases k <;> rfl
  have s0 : gather_S32x256x512_S512x1_S512x256x512_12_0_n_n_0_1_1256512.start (ix3 t d h) p 0 = e := by
    unfold GatherDims.start
    rw [dif_pos (by decide)]
    refine (congrArg (fun j => min (p j).toInt.toNat 31) (hi 0)).trans ?_
    show min (p (ix2 (n1 := 1) t 0)).toInt.toNat 31 = e
    rw [toInt_small h0 (by omega)]; omega
  refine congrArg x (funext fun a => Fin.ext ?_)
  show gather_S32x256x512_S512x1_S512x256x512_12_0_n_n_0_1_1256512.start (ix3 t d h) p a + _ + _ = _
  rw [GatherDims.batchCoord_eq_zero _ _ _ (by revert a; decide), Nat.add_zero]
  fin_cases a
  · exact congrArg₂ (· + ·) s0 rfl
  · exact (Nat.zero_add _).trans rfl
  · exact (Nat.zero_add _).trans rfl

end Cert.ReferenceIdeal.Layer

end
-- ==== Proof.Reference.Value.lean ====
/-
What the reference computes, at one place of its result: the layer.
-/
module

public import proofs.«01_k».proof.Proof.Reference.Gather
public import proofs.«01_k».proof.Proof.Spec

@[expose] public section

set_option maxRecDepth 16384

noncomputable section

namespace Cert.ReferenceIdeal.Layer

open Cert.ReferenceIdeal Cert.ReferenceIdeal.Gen

open Idealize.ShloMosaic

variable (X : Vec Ideal S512x256 .f32) (R : Vec Ideal S256x32 .f32) (I : Vec Ideal S512x1 .i32)
variable (W : Vec Ideal S32x256x512 .f32) (S : Vec Ideal S256x512 .f32)

/-! ## The choices -/

/-- The chosen expert of each token, as a column. -/
def choice : IVec S512x1 32 := broadcastInDim S512x1 ![0] bcast_S512_S512x1_0 (shapeCast S512 I shapeCasts_S512x1_S512)

/-- Each token's own number beside its choice. -/
def pairs : IVec S512x2 32 :=
  concatenate S512x2 1 [⟨S512x1, broadcastInDim S512x1 ![0] bcast_S512_S512x1_0 (iotaInDim S512 32 0)⟩, ⟨S512x1, choice I⟩]
    concatenates_S512x1_S512x1_S512x2_d1

/-- Whether a pair names an entry of the probabilities. -/
def pairsIn : IVec S512 1 :=
  Host.reduce IntOp.andi (andi (cmpi .sge (pairs I) (broadcastInDim S512x2 ![] bcast_S_S512x2 (constantI S_ 32 0#32)))
      (cmpi .sle (pairs I) (broadcastInDim S512x2 ![0, 1] bcast_S1x2_S512x2_0_1 (broadcastInDim S1x2 ![1] bcast_S2_S1x2_1 (fun i => lit0 (S2.rowMajor i))))))
    (constantI S_ 1 1#1) reducesTo_S512x2_S512_d1 h_S_

/-- Whether a choice names an expert. -/
def choiceIn : IVec S512 1 :=
  Host.reduce IntOp.andi (andi (cmpi .sge (choice I) (broadcastInDim S512x1 ![] bcast_S_S512x1 (constantI S_ 32 0#32)))
      (cmpi .sle (choice I) (broadcastInDim S512x1 ![0, 1] bcast_S1x1_S512x1_0_1 (broadcastInDim S1x1 ![1] bcast_S1_S1x1_1 (constantI S1 32 31#32)))))
    (constantI S_ 1 1#1) reducesTo_S512x1_S512_d1 h_S_

theorem choice_apply (t : Fin 512) : choice I (ix2 (n1 := 1) t 0) = I (ix2 (n1 := 1) t 0) := by pointwise [choice]
theorem pairs_fst (t : Fin 512) : pairs I (ix2 (n1 := 2) t 0) = BitVec.ofNat 32 t := by pointwise [pairs, choice]
theorem pairs_snd (t : Fin 512) : pairs I (ix2 (n1 := 2) t 1) = I (ix2 (n1 := 1) t 0) := by pointwise [pairs, choice]

/-- The test that a word is between 0 and `n`, read signed. -/
abbrev within (n w : BitVec 32) : BitVec 1 := IntOp.andi (IntOp.cmpi .sge w 0#32) (IntOp.cmpi .sle w n)

theorem within_token (t : Fin 512) : within 511#32 (BitVec.ofNat 32 t) = 1#1 := by
  revert t; decide

theorem within_expert (e : Fin 32) : within 31#32 (BitVec.ofNat 32 e) = 1#1 := by
  revert e; decide

/-- A word that passes the test for 31 is an expert's number. -/
theorem expert_of_within {w : BitVec 32} (h : within 31#32 w = 1#1) : ∃ e : Fin 32, BitVec.ofNat 32 e = w := by
  have both : ∀ a b : BitVec 1, IntOp.andi a b = 1#1 → a = 1#1 ∧ b = 1#1 := by decide
  have bit : ∀ b : Bool, BitVec.ofBool b = 1#1 → b = true := by decide
  obtain ⟨h0, h1⟩ := both _ _ h
  have h0 := BitVec.sle_iff_toInt_le.mp (bit _ h0)
  have h1 := BitVec.sle_iff_toInt_le.mp (bit _ h1)
  rw [show (0#32).toInt = 0 from rfl] at h0
  rw [show (31#32).toInt = 31 from rfl] at h1
  have hw := w.isLt
  rw [BitVec.toInt_eq_toNat_cond] at h0 h1
  have hn : w.toNat < 32 := by split at h0 <;> omega
  exact ⟨⟨w.toNat, hn⟩, BitVec.eq_of_toNat_eq (by rw [BitVec.toNat_ofNat]; exact Nat.mod_eq_of_lt hw)⟩

theorem and_one (b : BitVec 1) : IntOp.andi b 1#1 = b := by
  revert b; decide

theorem one_and (b : BitVec 1) : IntOp.andi 1#1 b = b := by
  revert b; decide

/-- The test of a choice is that of its word. -/
theorem choiceIn_apply (t : Fin 512) : choiceIn I (ix1 t) = within 31#32 (I (ix2 (n1 := 1) t 0)) := by
  pointwise [choiceIn, choice]
  rw [Finset.univ_unique, Finset.fold_singleton]
  exact and_one _

/-- The test of a pair is that of its choice: a token's own number passes. -/
theorem pairsIn_apply (t : Fin 512) : pairsIn I (ix1 t) = within 31#32 (I (ix2 (n1 := 1) t 0)) := by
  pointwise [pairsIn, pairs, choice]
  rw [show (Finset.univ : Finset (Fin 2)) = {0, 1} from rfl, Finset.fold_insert (by decide), Finset.fold_singleton]
  refine (congrArg₂ IntOp.andi (within_token t) rfl).trans ?_
  exact (one_and _).trans (and_one _)

/-! ## The softmax -/

/-- The router's scores. -/
def scores : FVec Ideal S512x32 .f32 := Host.dotGeneral (φ₁ := .f32) (φ₂ := .f32) dot_S512x256_S256x32_S512x32_1_0_0_1_n_n none X R
/-- The exponentials of the scores less their row's largest. -/
def exps : FVec Ideal S512x32 .f32 :=
  Host.exp (subf (scores X R) (broadcastInDim S512x32 ![0, 1] bcast_S512x1_S512x32_0_1 (broadcastInDim S512x1 ![0] bcast_S512_S512x1_0
    (Host.reduce FloatOps.maximumf (scores X R) (constant S_ .f32 0xFF800000#32) reducesTo_S512x32_S512_d1 h_S_))))
/-- The softmax of the scores. -/
def probs : FVec Ideal S512x32 .f32 :=
  Host.divf (exps X R) (broadcastInDim S512x32 ![0, 1] bcast_S512x1_S512x32_0_1 (broadcastInDim S512x1 ![0] bcast_S512_S512x1_0
    (Host.reduceAdd (exps X R) (constant S_ .f32 0x00000000#32) reducesTo_S512x32_S512_d1 h_S_)))

theorem probs_apply (t : Fin 512) (e : Fin 32) :
    probs X R (ix2 t e) = Moe.prob (fun t d => X (ix2 t d)) (fun d e => R (ix2 d e)) t e := by
  pointwise [probs, exps, scores]
  rfl

/-! ## The result -/

/-- The probability of each token's choice, zero where the choice names no expert. -/
def picked : FVec Ideal S512 .f32 :=
  select (pairsIn I) (Host.gather gather_S512x32_S512x2_S512_n_01_n_n_01_1_11 (probs X R) (pairs I))
    (broadcastInDim S512 ![] bcast_S_S512 (constant S_ .f32 0x00000000#32))

/-- The weights of each token's expert, zero where the choice names none. -/
def weights : FVec Ideal S512x256x512 .f32 :=
  select (broadcastInDim S512x256x512 ![0] bcast_S512_S512x256x512_0 (choiceIn I))
    (Host.gather gather_S32x256x512_S512x1_S512x256x512_12_0_n_n_0_1_1256512 W (choice I))
    (broadcastInDim S512x256x512 ![] bcast_S_S512x256x512 (constant S_ .f32 0x00000000#32))

/-- The reference's result. -/
def result : FVec Ideal S512x512 .f32 :=
  addf (Host.dotGeneral (φ₁ := .f32) (φ₂ := .f32) dot_S512x256_S256x512_S512x512_1_0_0_1_n_n none X S)
    (Host.dotGeneral (φ₁ := .f32) (φ₂ := .f32) dot_S512x256_S512x256x512_S512x512_1_1_n_2_0_0 none
      (mulf (broadcastInDim S512x256 ![0, 1] bcast_S512x1_S512x256_0_1 (broadcastInDim S512x1 ![0] bcast_S512_S512x1_0 (picked X R I))) X)
      (weights I W))

theorem picked_hit {t : Fin 512} {e : Fin 32} (h : BitVec.ofNat 32 e = I (ix2 (n1 := 1) t 0)) :
    picked X R I (ix1 t) = Moe.prob (fun t d => X (ix2 t d)) (fun d e => R (ix2 d e)) t e := by
  pointwise [picked]
  rw [pairsIn_apply, ← h, within_expert]
  refine (if_pos rfl).trans ?_
  rw [gather_pair _ _ t t e (pairs_fst I t) ((pairs_snd I t).trans h.symm)]
  exact probs_apply X R t e

theorem weights_hit {t : Fin 512} {e : Fin 32} (h : BitVec.ofNat 32 e = I (ix2 (n1 := 1) t 0)) (d : Fin 256) (k : Fin 512) :
    weights I W (ix3 t d k) = W (ix3 e d k) := by
  pointwise [weights]
  rw [choiceIn_apply, ← h, within_expert]
  refine (if_pos rfl).trans ?_
  exact gather_expert _ _ t e ((choice_apply I t).trans h.symm) d k

theorem weights_miss {t : Fin 512} (h : ∀ e : Fin 32, BitVec.ofNat 32 e ≠ I (ix2 (n1 := 1) t 0)) (d : Fin 256) (k : Fin 512) :
    weights I W (ix3 t d k) = (0 : EReal) := by
  pointwise [weights]
  rw [choiceIn_apply]
  exact if_neg fun hw => (expert_of_within hw).elim h

/-- The reference's result is the layer. -/
theorem result_apply (t k : Fin 512) :
    result X R I W S (ix2 t k) = Moe.layer (fun t d => X (ix2 t d)) (fun d e => R (ix2 d e)) (fun t => I (ix2 (n1 := 1) t 0))
      (fun e d k => W (ix3 e d k)) (fun d k => S (ix2 d k)) t k := by
  pointwise [result]
  unfold Moe.layer
  refine congrArg₂ (· + ·) rfl ?_
  by_cases h : ∃ e : Fin 32, BitVec.ofNat 32 e = I (ix2 (n1 := 1) t 0)
  · obtain ⟨e, h⟩ := h
    rw [Moe.sum_hit h]
    exact Finset.sum_congr rfl fun d _ => by rw [picked_hit X R I h, weights_hit I W h, mul_comm (X (ix2 t d))]
  · rw [Moe.sum_miss (not_exists.mp h)]
    exact Finset.sum_eq_zero fun d _ => by rw [weights_miss I W (not_exists.mp h)]; exact mul_zero _

end Cert.ReferenceIdeal.Layer

end
-- ==== Proof.Equation.lean ====
/-
Kernel and reference compute the same array: on memories that hold the same arguments, the eight devices' final array
is the reference's result.
-/
module

public import proofs.«01_k».proof.Proof.KernelIdeal.Total
public import proofs.«01_k».proof.Proof.Reference.Value
public import Idealize.ShloMosaic.Lib.Layout

@[expose] public section

noncomputable section

namespace Cert.Moe

open Idealize.ShloMosaic

/-- Plane `k` of the block of experts that device `c` holds is expert `4 c + k` of all thirty-two. -/
theorem block_expert {α : Type} (c : Fin 8) (W : (⟨3, ![32, 256, 512]⟩ : Shape).Idx → α) (k : Fin 4) (d : Fin 256) (h : Fin 512) :
    Layout.block ⟨3, ![4, 256, 512]⟩ ⟨3, ![32, 256, 512]⟩ 0 8 c W (by decide) (ix3 k d h) = W (ix3 (expert c k) d h) := by
  refine congrArg W (funext fun a => Fin.ext ?_)
  rw [Layout.Tiles.idx_val]
  fin_cases a
  · show (c : ℕ) * 4 + (k : ℕ) = 4 * c + k
    omega
  · rfl
  · rfl

open Cert.KernelIdeal.Cube in
/-- The kernel's final array, from memories in which each device holds its part of the reference's arguments. -/
theorem out_eq_result (m : (ℓ : Loc KernelIdeal.nD KernelIdeal.τ KernelIdeal.sig) → Buf (Elt Ideal) ℓ) (ρ : Dev KernelIdeal.nD → PrngReg)
    (X : Vec Ideal ReferenceIdeal.S512x256 .f32) (R : Vec Ideal ReferenceIdeal.S256x32 .f32) (I : Vec Ideal ReferenceIdeal.S512x1 .i32)
    (W : Vec Ideal ReferenceIdeal.S32x256x512 .f32) (S : Vec Ideal ReferenceIdeal.S256x512 .f32)
    (h : ∀ c : Dev KernelIdeal.nD, m ((c.tc : Thread KernelIdeal.nD KernelIdeal.τ).loc KernelIdeal.main_arg0) = X
      ∧ m ((c.tc : Thread KernelIdeal.nD KernelIdeal.τ).loc KernelIdeal.main_arg1) = R
      ∧ m ((c.tc : Thread KernelIdeal.nD KernelIdeal.τ).loc KernelIdeal.main_arg2) = I
      ∧ m ((c.tc : Thread KernelIdeal.nD KernelIdeal.τ).loc KernelIdeal.main_arg3) = Layout.block ⟨3, ![4, 256, 512]⟩ ⟨3, ![32, 256, 512]⟩ 0 8 c W
      ∧ m ((c.tc : Thread KernelIdeal.nD KernelIdeal.τ).loc KernelIdeal.main_arg4) = S) :
    Out m ρ = ReferenceIdeal.Layer.result X R I W S := by
  funext i
  obtain ⟨t, k, rfl⟩ : ∃ t k, i = ix2 t k := ⟨i 0, i 1, funext fun a => by fin_cases a <;> rfl⟩
  rw [ReferenceIdeal.Layer.result_apply]
  exact Out_apply m ρ X R I (fun e d k => W (ix3 e d k)) S (fun c => (in0_eq m ρ c).trans (h c).1) (fun c => (in1_eq m ρ c).trans (h c).2.1)
    (fun c => (in2_eq m ρ c).trans (h c).2.2.1)
    (fun c k d j => (congrFun ((in3_eq m ρ c).trans (h c).2.2.2.1) (ix3 k d j)).trans (block_expert c W k d j))
    (fun c => (in4_eq m ρ c).trans (h c).2.2.2.2) t k

end Cert.Moe

end
-- ==== Proof.lean ====
/-
The claims: the kernel, the ideal kernel and the reference each end with their arguments unchanged and every counter
at zero; the ideal kernel is the kernel's text over the extended reals; and on every device its result is the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Final
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The claims: the three frames, the idealization, and the equality of the kernel's and the reference's results. -/
theorem claim : Cert.Claim := ⟨Cert.Kernel.Gen.facts, Cert.KernelIdeal.Gen.facts, Cert.ReferenceIdeal.Gen.facts,
  fun m g _ => (θ_run _ _ _).mono (fun _ h => ⟨fun c => (h.1 c).2, h.2⟩) (Cert.Kernel.Cube.run_final (F := Bits) m g),
  fun m g _ => (θ_run _ _ _).mono (fun _ h => ⟨fun c => (h.1 c).2, h.2⟩) (Cert.KernelIdeal.Cube.run_final (F := Ideal) m g),
  fun m g _ => (θ_run _ _ _).mono (fun r h => ⟨fun c => (h c).2, sem_eq_zero_of_no_sems (by decide) r.2⟩) (Cert.ReferenceIdeal.Value.run m g),
  trivial,
  fun m g m' g' _ h => ⟨_,
    (θ_run _ _ _).mono (fun _ r c => ⟨(r.1 c).1.trans (Cert.Moe.out_eq_result m g _ _ _ _ _ h), (r.1 c).2⟩)
      (Cert.KernelIdeal.Cube.run_final (F := Ideal) m g),
    (θ_run _ _ _).mono (fun _ r => r 0) (Cert.ReferenceIdeal.Value.run m' g')⟩⟩

end Cert.Proof

end
